-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelCtx (m : (ℓ : Loc Cert.KernelCtx.nD Cert.KernelCtx.τ Cert.KernelCtx.sig) → Buf (Elt Bits) ℓ) : Prop :=
  True

def Pre_KernelCtxIdeal (m : (ℓ : Loc Cert.KernelCtxIdeal.nD Cert.KernelCtxIdeal.τ Cert.KernelCtxIdeal.sig) → Buf (Elt Ideal) ℓ) : Prop :=
  True

def Pre_ReferenceCtxIdeal (m : (ℓ : Loc Cert.ReferenceCtxIdeal.nD Cert.ReferenceCtxIdeal.τ Cert.ReferenceCtxIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelCtx [hKernelCtx : Cert.KernelCtx.Facts] : Prop :=
  ∀ (m : (ℓ : Loc Cert.KernelCtx.nD Cert.KernelCtx.τ Cert.KernelCtx.sig) → Buf (Elt Bits) ℓ) (g : Dev Cert.KernelCtx.nD → PrngReg), Pre_KernelCtx m →
    θ_run (Cert.KernelCtx.defs (F := Bits)) (onTc (τ := Cert.KernelCtx.τ) (Cert.KernelCtx.main (F := Bits))) ⟨m, fun _ => 0, g⟩ (fun r => (∀ c : Dev Cert.KernelCtx.nD,
      r.2.mem ((c.tc : Thread Cert.KernelCtx.nD Cert.KernelCtx.τ).loc Cert.KernelCtx.main_arg0) = m ((c.tc : Thread Cert.KernelCtx.nD Cert.KernelCtx.τ).loc Cert.KernelCtx.main_arg0)
      ∧ r.2.mem ((c.tc : Thread Cert.KernelCtx.nD Cert.KernelCtx.τ).loc Cert.KernelCtx.main_arg1) = m ((c.tc : Thread Cert.KernelCtx.nD Cert.KernelCtx.τ).loc Cert.KernelCtx.main_arg1)
      ∧ r.2.mem ((c.tc : Thread Cert.KernelCtx.nD Cert.KernelCtx.τ).loc Cert.KernelCtx.main_arg2) = m ((c.tc : Thread Cert.KernelCtx.nD Cert.KernelCtx.τ).loc Cert.KernelCtx.main_arg2)
      ∧ r.2.mem ((c.tc : Thread Cert.KernelCtx.nD Cert.KernelCtx.τ).loc Cert.KernelCtx.main_arg3) = m ((c.tc : Thread Cert.KernelCtx.nD Cert.KernelCtx.τ).loc Cert.KernelCtx.main_arg3))
      ∧ r.2.sem = fun _ => 0)

def quiescent_KernelCtxIdeal [hKernelCtxIdeal : Cert.KernelCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ r.2.sem = fun _ => 0)

def quiescent_ReferenceCtxIdeal [hReferenceCtxIdeal : Cert.ReferenceCtxIdeal.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4))
      ∧ r.2.sem = fun _ => 0)

def preserves_Kernel_KernelIdeal : Prop :=
  True

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v24) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v23) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelCtx_KernelCtxIdeal : Prop :=
  True

def algebraic_KernelCtxIdeal_ReferenceCtxIdeal [hKernelCtxIdeal : Cert.KernelCtxIdeal.Facts] [hReferenceCtxIdeal : Cert.ReferenceCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg)
    (m' : (ℓ : Loc Cert.ReferenceCtxIdeal.nD Cert.ReferenceCtxIdeal.τ Cert.ReferenceCtxIdeal.sig) → Buf (Elt Ideal) ℓ) (g' : Dev Cert.ReferenceCtxIdeal.nD → PrngReg), Pre_KernelCtxIdeal m →
    (∀ c : Dev Cert.KernelCtxIdeal.nD,
      m' ((c.tc : Thread Cert.ReferenceCtxIdeal.nD Cert.ReferenceCtxIdeal.τ).loc Cert.ReferenceCtxIdeal.main_arg0) = m ((c.tc : Thread Cert.KernelCtxIdeal.nD Cert.KernelCtxIdeal.τ).loc Cert.KernelCtxIdeal.main_arg0)
      ∧ m' ((c.tc : Thread Cert.ReferenceCtxIdeal.nD Cert.ReferenceCtxIdeal.τ).loc Cert.ReferenceCtxIdeal.main_arg1) = m ((c.tc : Thread Cert.KernelCtxIdeal.nD Cert.KernelCtxIdeal.τ).loc Cert.KernelCtxIdeal.main_arg1)
      ∧ m' ((c.tc : Thread Cert.ReferenceCtxIdeal.nD Cert.ReferenceCtxIdeal.τ).loc Cert.ReferenceCtxIdeal.main_arg2) = m ((c.tc : Thread Cert.KernelCtxIdeal.nD Cert.KernelCtxIdeal.τ).loc Cert.KernelCtxIdeal.main_arg2)
      ∧ m' ((c.tc : Thread Cert.ReferenceCtxIdeal.nD Cert.ReferenceCtxIdeal.τ).loc Cert.ReferenceCtxIdeal.main_arg3) = m ((c.tc : Thread Cert.KernelCtxIdeal.nD Cert.KernelCtxIdeal.τ).loc Cert.KernelCtxIdeal.main_arg3)) →
    ∃ (v0 : (c : Dev Cert.KernelCtxIdeal.nD) → Buf (Elt Ideal) ((c.tc : Thread Cert.KernelCtxIdeal.nD Cert.KernelCtxIdeal.τ).loc Cert.KernelCtxIdeal.main_v2)),
      θ_run (Cert.KernelCtxIdeal.defs (F := Ideal)) (onTc (τ := Cert.KernelCtxIdeal.τ) (Cert.KernelCtxIdeal.main (F := Ideal))) ⟨m, fun _ => 0, g⟩ (fun r => ∀ c : Dev Cert.KernelCtxIdeal.nD,
          r.2.mem ((c.tc : Thread Cert.KernelCtxIdeal.nD Cert.KernelCtxIdeal.τ).loc Cert.KernelCtxIdeal.main_v2) = v0 c
          ∧ r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
          ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
          ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
          ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ θ_run (Cert.ReferenceCtxIdeal.defs (F := Ideal)) (onTc (τ := Cert.ReferenceCtxIdeal.τ) (Cert.ReferenceCtxIdeal.main (F := Ideal))) ⟨m', fun _ => 0, g'⟩ (fun r => ∀ c : Dev Cert.ReferenceCtxIdeal.nD,
          r.2.mem ((c.tc : Thread Cert.ReferenceCtxIdeal.nD Cert.ReferenceCtxIdeal.τ).loc Cert.ReferenceCtxIdeal.main_v25) = v0 c
          ∧ r.2.mem ((c.tc : Thread Cert.ReferenceCtxIdeal.nD Cert.ReferenceCtxIdeal.τ).loc Cert.ReferenceCtxIdeal.main_arg0) = m' ((c.tc : Thread Cert.ReferenceCtxIdeal.nD Cert.ReferenceCtxIdeal.τ).loc Cert.ReferenceCtxIdeal.main_arg0)
          ∧ r.2.mem ((c.tc : Thread Cert.ReferenceCtxIdeal.nD Cert.ReferenceCtxIdeal.τ).loc Cert.ReferenceCtxIdeal.main_arg1) = m' ((c.tc : Thread Cert.ReferenceCtxIdeal.nD Cert.ReferenceCtxIdeal.τ).loc Cert.ReferenceCtxIdeal.main_arg1)
          ∧ r.2.mem ((c.tc : Thread Cert.ReferenceCtxIdeal.nD Cert.ReferenceCtxIdeal.τ).loc Cert.ReferenceCtxIdeal.main_arg2) = m' ((c.tc : Thread Cert.ReferenceCtxIdeal.nD Cert.ReferenceCtxIdeal.τ).loc Cert.ReferenceCtxIdeal.main_arg2)
          ∧ r.2.mem ((c.tc : Thread Cert.ReferenceCtxIdeal.nD Cert.ReferenceCtxIdeal.τ).loc Cert.ReferenceCtxIdeal.main_arg3) = m' ((c.tc : Thread Cert.ReferenceCtxIdeal.nD Cert.ReferenceCtxIdeal.τ).loc Cert.ReferenceCtxIdeal.main_arg3))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v1_0)) (v1 : (c : Dev Cert.KernelModIdeal.nD) → Buf (Elt Ideal) ((c.tc : Thread Cert.KernelModIdeal.nD Cert.KernelModIdeal.τ).loc Cert.KernelModIdeal.main_v1_1)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v1_0) = v0 c
          ∧ r.2.mem ((c.tc : Thread Cert.KernelModIdeal.nD Cert.KernelModIdeal.τ).loc Cert.KernelModIdeal.main_v1_1) = v1 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v17) = v0 c
          ∧ r.2.mem ((c.tc : Thread Cert.ReferenceModIdeal.nD Cert.ReferenceModIdeal.τ).loc Cert.ReferenceModIdeal.main_v21) = v1 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)
      ∧ m' ((c.tc : Thread Cert.ReferenceConvIdeal.nD Cert.ReferenceConvIdeal.τ).loc Cert.ReferenceConvIdeal.main_arg4) = m ((c.tc : Thread Cert.KernelConvIdeal.nD Cert.KernelConvIdeal.τ).loc Cert.KernelConvIdeal.main_arg4)) →
    ∃ (v0 : (c : Dev Cert.KernelConvIdeal.nD) → Buf (Elt Ideal) ((c.tc : Thread Cert.KernelConvIdeal.nD Cert.KernelConvIdeal.τ).loc Cert.KernelConvIdeal.main_v0)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
          ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v489) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4) = m' ((c.tc : Thread Cert.ReferenceConvIdeal.nD Cert.ReferenceConvIdeal.τ).loc Cert.ReferenceConvIdeal.main_arg4))

def Claim : Prop :=
  ∃ (hKernel : Cert.Kernel.Facts) (hKernelIdeal : Cert.KernelIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelCtx : Cert.KernelCtx.Facts) (hKernelCtxIdeal : Cert.KernelCtxIdeal.Facts) (hReferenceCtxIdeal : Cert.ReferenceCtxIdeal.Facts) (hKernelMod : Cert.KernelMod.Facts) (hKernelModIdeal : Cert.KernelModIdeal.Facts) (hReferenceModIdeal : Cert.ReferenceModIdeal.Facts) (hKernelConv : Cert.KernelConv.Facts) (hKernelConvIdeal : Cert.KernelConvIdeal.Facts) (hReferenceConvIdeal : Cert.ReferenceConvIdeal.Facts),
    quiescent_Kernel (hKernel := hKernel)
    ∧ quiescent_KernelIdeal (hKernelIdeal := hKernelIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelCtx (hKernelCtx := hKernelCtx)
    ∧ quiescent_KernelCtxIdeal (hKernelCtxIdeal := hKernelCtxIdeal)
    ∧ quiescent_ReferenceCtxIdeal (hReferenceCtxIdeal := hReferenceCtxIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ preserves_Kernel_KernelIdeal
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelCtx_KernelCtxIdeal
    ∧ algebraic_KernelCtxIdeal_ReferenceCtxIdeal (hKernelCtxIdeal := hKernelCtxIdeal) (hReferenceCtxIdeal := hReferenceCtxIdeal)
    ∧ preserves_KernelMod_KernelModIdeal
    ∧ algebraic_KernelModIdeal_ReferenceModIdeal (hKernelModIdeal := hKernelModIdeal) (hReferenceModIdeal := hReferenceModIdeal)
    ∧ preserves_KernelConv_KernelConvIdeal
    ∧ algebraic_KernelConvIdeal_ReferenceConvIdeal (hKernelConvIdeal := hKernelConvIdeal) (hReferenceConvIdeal := hReferenceConvIdeal)
-- ==== Kernel.lean ====
abbrev S8x4096x4096 : Shape := ⟨3, ![8, 4096, 4096]⟩
abbrev S8x256x2048 : Shape := ⟨3, ![8, 256, 2048]⟩
abbrev S8x1024 : Shape := ⟨2, ![8, 1024]⟩
abbrev S1x512 : Shape := ⟨2, ![1, 512]⟩
abbrev S2x64x64 : Shape := ⟨3, ![2, 64, 64]⟩
abbrev S8x4096x512 : Shape := ⟨3, ![8, 4096, 512]⟩
abbrev S1x4096x128 : Shape := ⟨3, ![1, 4096, 128]⟩
abbrev S1x256x128 : Shape := ⟨3, ![1, 256, 128]⟩
abbrev S8x128 : Shape := ⟨2, ![8, 128]⟩
abbrev S1x128 : Shape := ⟨2, ![1, 128]⟩
abbrev S128x128 : Shape := ⟨2, ![128, 128]⟩
abbrev S4096x128 : Shape := ⟨2, ![4096, 128]⟩
abbrev S1x64x64 : Shape := ⟨3, ![1, 64, 64]⟩
abbrev S64x64 : Shape := ⟨2, ![64, 64]⟩
abbrev S1x64x128 : Shape := ⟨3, ![1, 64, 128]⟩
abbrev S64x128 : Shape := ⟨2, ![64, 128]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 29
  | .smem => 0
  | _ => 0

abbrev bufTy : (tb : Table) → Fin (tcTables nBuf tb) → BufTy
  | .hbm, ⟨0, _⟩ => ⟨S8x4096x4096, .bf16⟩
  | .hbm, ⟨1, _⟩ => ⟨S8x256x2048, .bf16⟩
  | .hbm, ⟨2, _⟩ => ⟨S8x1024, .f32⟩
  | .hbm, ⟨3, _⟩ => ⟨S1x512, .f32⟩
  | .hbm, ⟨4, _⟩ => ⟨S2x64x64, .i32⟩
  | .hbm, ⟨5, _⟩ => ⟨S8x4096x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x128, .bf16⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S1x128, .f32⟩
  | .local _ .vmem, ⟨21, _⟩ => ⟨S1x128, .f32⟩
  | .local _ .vmem, ⟨22, _⟩ => ⟨S2x64x64, .i32⟩
  | .local _ .vmem, ⟨23, _⟩ => ⟨S1x4096x128, .bf16⟩
  | .local _ .vmem, ⟨24, _⟩ => ⟨S1x4096x128, .bf16⟩
  | .local _ .vmem, ⟨25, _⟩ => ⟨S128x128, .f32⟩
  | .local _ .vmem, ⟨26, _⟩ => ⟨S128x128, .f32⟩
  | .local _ .vmem, ⟨27, _⟩ => ⟨S4096x128, .f32⟩
  | .local _ .vmem, ⟨28, _⟩ => ⟨S4096x128, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c16_i32 : BitVec 32 := 16#32
  let v1782 : BitVec 32 := Scalar.addi c0_i32 c16_i32
  let c1_i32_685 : BitVec 32 := 1#32
  ⟨c0_i32, v1782, c1_i32_685⟩
def k0_mult1 (k0_t1 : Fin k0_t1_loop.trips) : BitVec 32 :=
  let c0_i32 : BitVec 32 := 0#32
  let c1_i32_685 : BitVec 32 := 1#32
  let arg19 : BitVec 32 := Scf.iv c0_i32 c1_i32_685 k0_t1
  let c4_i32_691 : BitVec 32 := 4#32
  let v1784 : BitVec 32 := Scalar.muli arg19 c4_i32_691
  let c0_i32_692 : BitVec 32 := 0#32
  let v1785 : BitVec 32 := Scalar.addi v1784 c0_i32_692
  let c64_i32 : BitVec 32 := 64#32
  let v1786 : BitVec 32 := Scalar.muli v1785 c64_i32
  v1786
def k0_mult2 (k0_t1 : Fin k0_t1_loop.trips) : BitVec 32 :=
  let c63_i32 : BitVec 32 := 63#32
  let c0_i32 : BitVec 32 := 0#32
  let c1_i32_685 : BitVec 32 := 1#32
  let arg19 : BitVec 32 := Scf.iv c0_i32 c1_i32_685 k0_t1
  let c4_i32_691 : BitVec 32 := 4#32
  let v1784 : BitVec 32 := Scalar.muli arg19 c4_i32_691
  let c0_i32_692 : BitVec 32 := 0#32
  let v1785 : BitVec 32 := Scalar.addi v1784 c0_i32_692
  let v1788 : BitVec 32 := Scalar.subi c63_i32 v1785
  let c64_i32_693 : BitVec 32 := 64#32
  let v1789 : BitVec 32 := Scalar.muli v1788 c64_i32_693
  v1789
def k0_off1 (k0_t1 : Fin k0_t1_loop.trips) (c0_i32_692 : BitVec 32) : Fin 3 → Nat :=
  let c0_694 : Index := 0#32
  let c0_i32 : BitVec 32 := 0#32
  let c1_i32_685 : BitVec 32 := 1#32
  let arg19 : BitVec 32 := Scf.iv c0_i32 c1_i32_685 k0_t1
  let c4_i32_691 : BitVec 32 := 4#32
  let v1784 : BitVec 32 := Scalar.muli arg19 c4_i32_691
  let v1785 : BitVec 32 := Scalar.addi v1784 c0_i32_692
  let c64_i32 : BitVec 32 := 64#32
  let v1786 : BitVec 32 := Scalar.muli v1785 c64_i32
  let v1787 : BitVec 32 := v1786
  let v1791 : Index := Scalar.indexCast v1787
  let c0_695 : Index := 0#32
  ![0, v1791.toNat, 0]
def k0_off2 (k0_t1 : Fin k0_t1_loop.trips) (c0_i32_692 : BitVec 32) : Fin 2 → Nat :=
  let c0_i32 : BitVec 32 := 0#32
  let c1_i32_685 : BitVec 32 := 1#32
  let arg19 : BitVec 32 := Scf.iv c0_i32 c1_i32_685 k0_t1
  let c4_i32_691 : BitVec 32 := 4#32
  let v1784 : BitVec 32 := Scalar.muli arg19 c4_i32_691
  let v1785 : BitVec 32 := Scalar.addi v1784 c0_i32_692
  let c64_i32 : BitVec 32 := 64#32
  let v1786 : BitVec 32 := Scalar.muli v1785 c64_i32
  let v1787 : BitVec 32 := v1786
  let v2291 : Index := Scalar.indexCast v1787
  let c0_824 : Index := 0#32
  ![v2291.toNat, 0]
def k0_off3 (k0_t1 : Fin k0_t1_loop.trips) (c0_i32_692 : BitVec 32) : Fin 3 → Nat :=
  let c0_825 : Index := 0#32
  let c63_i32 : BitVec 32 := 63#32
  let c0_i32 : BitVec 32 := 0#32
  let c1_i32_685 : BitVec 32 := 1#32
  let arg19 : BitVec 32 := Scf.iv c0_i32 c1_i32_685 k0_t1
  let c4_i32_691 : BitVec 32 := 4#32
  let v1784 : BitVec 32 := Scalar.muli arg19 c4_i32_691
  let v1785 : BitVec 32 := Scalar.addi v1784 c0_i32_692
  let v1788 : BitVec 32 := Scalar.subi c63_i32 v1785
  let c64_i32_693 : BitVec 32 := 64#32
  let v1789 : BitVec 32 := Scalar.muli v1788 c64_i32_693
  let v1790 : BitVec 32 := v1789
  let v2295 : Index := Scalar.indexCast v1790
  let c0_826 : Index := 0#32
  ![0, v2295.toNat, 0]
def k0_off4 (k0_t1 : Fin k0_t1_loop.trips) (c0_i32_692 : BitVec 32) : Fin 2 → Nat :=
  let c63_i32 : BitVec 32 := 63#32
  let c0_i32 : BitVec 32 := 0#32
  let c1_i32_685 : BitVec 32 := 1#32
  let arg19 : BitVec 32 := Scf.iv c0_i32 c1_i32_685 k0_t1
  let c4_i32_691 : BitVec 32 := 4#32
  let v1784 : BitVec 32 := Scalar.muli arg19 c4_i32_691
  let v1785 : BitVec 32 := Scalar.addi v1784 c0_i32_692
  let v1788 : BitVec 32 := Scalar.subi c63_i32 v1785
  let c64_i32_693 : BitVec 32 := 64#32
  let v1789 : BitVec 32 := Scalar.muli v1788 c64_i32_693
  let v1790 : BitVec 32 := v1789
  let v2795 : Index := Scalar.indexCast v1790
  let c0_957 : Index := 0#32
  ![v2795.toNat, 0]
def k0_mult3 (k0_t1 : Fin k0_t1_loop.trips) : BitVec 32 :=
  let c0_i32 : BitVec 32 := 0#32
  let c1_i32_685 : BitVec 32 := 1#32
  let arg19 : BitVec 32 := Scf.iv c0_i32 c1_i32_685 k0_t1
  let c4_i32_958 : BitVec 32 := 4#32
  let v2799 : BitVec 32 := Scalar.muli arg19 c4_i32_958
  let c1_i32_959 : BitVec 32 := 1#32
  let v2800 : BitVec 32 := Scalar.addi v2799 c1_i32_959
  let c64_i32_960 : BitVec 32 := 64#32
  let v2801 : BitVec 32 := Scalar.muli v2800 c64_i32_960
  v2801
def k0_mult4 (k0_t1 : Fin k0_t1_loop.trips) : BitVec 32 :=
  let c63_i32_961 : BitVec 32 := 63#32
  let c0_i32 : BitVec 32 := 0#32
  let c1_i32_685 : BitVec 32 := 1#32
  let arg19 : BitVec 32 := Scf.iv c0_i32 c1_i32_685 k0_t1
  let c4_i32_958 : BitVec 32 := 4#32
  let v2799 : BitVec 32 := Scalar.muli arg19 c4_i32_958
  let c1_i32_959 : BitVec 32 := 1#32
  let v2800 : BitVec 32 := Scalar.addi v2799 c1_i32_959
  let v2803 : BitVec 32 := Scalar.subi c63_i32_961 v2800
  let c64_i32_962 : BitVec 32 := 64#32
  let v2804 : BitVec 32 := Scalar.muli v2803 c64_i32_962
  v2804
def k0_mult5 (k0_t1 : Fin k0_t1_loop.trips) : BitVec 32 :=
  let c0_i32 : BitVec 32 := 0#32
  let c1_i32_685 : BitVec 32 := 1#32
  let arg19 : BitVec 32 := Scf.iv c0_i32 c1_i32_685 k0_t1
  let c4_i32_1229 : BitVec 32 := 4#32
  let v3814 : BitVec 32 := Scalar.muli arg19 c4_i32_1229
  let c2_i32_1230 : BitVec 32 := 2#32
  let v3815 : BitVec 32 := Scalar.addi v3814 c2_i32_1230
  let c64_i32_1231 : BitVec 32 := 64#32
  let v3816 : BitVec 32 := Scalar.muli v3815 c64_i32_1231
  v3816
def k0_mult6 (k0_t1 : Fin k0_t1_loop.trips) : BitVec 32 :=
  let c63_i32_1232 : BitVec 32 := 63#32
  let c0_i32 : BitVec 32 := 0#32
  let c1_i32_685 : BitVec 32 := 1#32
  let arg19 : BitVec 32 := Scf.iv c0_i32 c1_i32_685 k0_t1
  let c4_i32_1229 : BitVec 32 := 4#32
  let v3814 : BitVec 32 := Scalar.muli arg19 c4_i32_1229
  let c2_i32_1230 : BitVec 32 := 2#32
  let v3815 : BitVec 32 := Scalar.addi v3814 c2_i32_1230
  let v3818 : BitVec 32 := Scalar.subi c63_i32_1232 v3815
  let c64_i32_1233 : BitVec 32 := 64#32
  let v3819 : BitVec 32 := Scalar.muli v3818 c64_i32_1233
  v3819
def k0_mult7 (k0_t1 : Fin k0_t1_loop.trips) : BitVec 32 :=
  let c0_i32 : BitVec 32 := 0#32
  let c1_i32_685 : BitVec 32 := 1#32
  let arg19 : BitVec 32 := Scf.iv c0_i32 c1_i32_685 k0_t1
  let c4_i32_1500 : BitVec 32 := 4#32
  let v4829 : BitVec 32 := Scalar.muli arg19 c4_i32_1500
  let c3_i32_1501 : BitVec 32 := 3#32
  let v4830 : BitVec 32 := Scalar.addi v4829 c3_i32_1501
  let c64_i32_1502 : BitVec 32 := 64#32
  let v4831 : BitVec 32 := Scalar.muli v4830 c64_i32_1502
  v4831
def k0_mult8 (k0_t1 : Fin k0_t1_loop.trips) : BitVec 32 :=
  let c63_i32_1503 : BitVec 32 := 63#32
  let c0_i32 : BitVec 32 := 0#32
  let c1_i32_685 : BitVec 32 := 1#32
  let arg19 : BitVec 32 := Scf.iv c0_i32 c1_i32_685 k0_t1
  let c4_i32_1500 : BitVec 32 := 4#32
  let v4829 : BitVec 32 := Scalar.muli arg19 c4_i32_1500
  let c3_i32_1501 : BitVec 32 := 3#32
  let v4830 : BitVec 32 := Scalar.addi v4829 c3_i32_1501
  let v4833 : BitVec 32 := Scalar.subi c63_i32_1503 v4830
  let c64_i32_1504 : BitVec 32 := 64#32
  let v4834 : BitVec 32 := Scalar.muli v4833 c64_i32_1504
  v4834
@[reducible] def k0_t2_loop : Scf.Loop 32 :=
  let c0_i32_687 : BitVec 32 := 0#32
  let c16_i32_688 : BitVec 32 := 16#32
  let v1783 : BitVec 32 := Scalar.addi c0_i32_687 c16_i32_688
  let c1_i32_689 : BitVec 32 := 1#32
  ⟨c0_i32_687, v1783, c1_i32_689⟩
def k0_mult9 (k0_t2 : Fin k0_t2_loop.trips) : BitVec 32 :=
  let c0_i32_687 : BitVec 32 := 0#32
  let c1_i32_689 : BitVec 32 := 1#32
  let arg19 : BitVec 32 := Scf.iv c0_i32_687 c1_i32_689 k0_t2
  let c256_i32 : BitVec 32 := 256#32
  let v1784 : BitVec 32 := Scalar.muli arg19 c256_i32
  v1784
def k0_off5 (k0_t2 : Fin k0_t2_loop.trips) : Fin 2 → Nat :=
  let c0_i32_687 : BitVec 32 := 0#32
  let c1_i32_689 : BitVec 32 := 1#32
  let arg19 : BitVec 32 := Scf.iv c0_i32_687 c1_i32_689 k0_t2
  let c256_i32 : BitVec 32 := 256#32
  let v1784 : BitVec 32 := Scalar.muli arg19 c256_i32
  let v1785 : BitVec 32 := v1784
  let v1786 : Index := Scalar.indexCast v1785
  let c0_691 : Index := 0#32
  ![v1786.toNat, 0]
def k0_off6 (k0_t2 : Fin k0_t2_loop.trips) : Fin 3 → Nat :=
  let c0_695 : Index := 0#32
  let c0_i32_687 : BitVec 32 := 0#32
  let c1_i32_689 : BitVec 32 := 1#32
  let arg19 : BitVec 32 := Scf.iv c0_i32_687 c1_i32_689 k0_t2
  let c256_i32 : BitVec 32 := 256#32
  let v1784 : BitVec 32 := Scalar.muli arg19 c256_i32
  let v1785 : BitVec 32 := v1784
  let v1796 : Index := Scalar.indexCast v1785
  let c0_696 : Index := 0#32
  ![0, v1796.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S2x64x64 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIn.lean ====
abbrev S8x4096x1024 : Shape := ⟨3, ![8, 4096, 1024]⟩
abbrev S8x1x3072 : Shape := ⟨3, ![8, 1, 3072]⟩
abbrev S1x1024 : Shape := ⟨2, ![1, 1024]⟩
abbrev S1024x4096 : Shape := ⟨2, ![1024, 4096]⟩
abbrev S8x4096x4096 : Shape := ⟨3, ![8, 4096, 4096]⟩
abbrev S1x512x1024 : Shape := ⟨3, ![1, 512, 1024]⟩
abbrev S1x1x3072 : Shape := ⟨3, ![1, 1, 3072]⟩
abbrev S1x512x4096 : Shape := ⟨3, ![1, 512, 4096]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x1x3072, .f32⟩
  | .hbm, ⟨2, _⟩ => ⟨S1x1024, .f32⟩
  | .hbm, ⟨3, _⟩ => ⟨S1024x4096, .f32⟩
  | .hbm, ⟨4, _⟩ => ⟨S1024x4096, .bf16⟩
  | .hbm, ⟨5, _⟩ => ⟨S8x4096x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x4096, .bf16⟩
  | .local _ .vmem, ⟨6, _⟩ => ⟨S1x512x4096, .bf16⟩
  | .local _ .vmem, ⟨7, _⟩ => ⟨S1x512x4096, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceInIdeal.lean ====
abbrev S8x4096x1024 : Shape := ⟨3, ![8, 4096, 1024]⟩
abbrev S8x1x3072 : Shape := ⟨3, ![8, 1, 3072]⟩
abbrev S1x1024 : Shape := ⟨2, ![1, 1024]⟩
abbrev S1024x4096 : Shape := ⟨2, ![1024, 4096]⟩
abbrev S8x1x1024 : Shape := ⟨3, ![8, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x3072, .f32⟩
  | .hbm, ⟨2, _⟩ => ⟨S1x1024, .f32⟩
  | .hbm, ⟨3, _⟩ => ⟨S1024x4096, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x4096, .f32⟩
  | .hbm, ⟨32, _⟩ => ⟨S8x4096x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== KernelOut.lean ====
abbrev S8x4096x512 : Shape := ⟨3, ![8, 4096, 512]⟩
abbrev S8x4096x1024 : Shape := ⟨3, ![8, 4096, 1024]⟩
abbrev S8x1x3072 : Shape := ⟨3, ![8, 1, 3072]⟩
abbrev S1024x1024 : Shape := ⟨2, ![1024, 1024]⟩
abbrev S1x1024 : Shape := ⟨2, ![1, 1024]⟩
abbrev S1x512x512 : Shape := ⟨3, ![1, 512, 512]⟩
abbrev S1x512x1024 : Shape := ⟨3, ![1, 512, 1024]⟩
abbrev S1x1x3072 : Shape := ⟨3, ![1, 1, 3072]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x1x3072, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S8x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x3072, .f32⟩
  | .local _ .vmem, ⟨7, _⟩ => ⟨S1x1x3072, .f32⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceOutIdeal.lean ====
abbrev S8x4096x512 : Shape := ⟨3, ![8, 4096, 512]⟩
abbrev S8x4096x1024 : Shape := ⟨3, ![8, 4096, 1024]⟩
abbrev S8x1x3072 : Shape := ⟨3, ![8, 1, 3072]⟩
abbrev S1024x1024 : Shape := ⟨2, ![1024, 1024]⟩
abbrev S1x1024 : Shape := ⟨2, ![1, 1024]⟩
abbrev S8x1x1024 : Shape := ⟨3, ![8, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x1x3072, .f32⟩
  | .hbm, ⟨4, _⟩ => ⟨S1024x1024, .f32⟩
  | .hbm, ⟨5, _⟩ => ⟨S1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x4096x512, .f32⟩
  | .hbm, ⟨10, _⟩ => ⟨S8x4096x512, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KernelCtx.lean ====
abbrev S8x256x1024 : Shape := ⟨3, ![8, 256, 1024]⟩
abbrev S8x1x3072 : Shape := ⟨3, ![8, 1, 3072]⟩
abbrev S1x1024 : Shape := ⟨2, ![1, 1024]⟩
abbrev S1024x4096 : Shape := ⟨2, ![1024, 4096]⟩
abbrev S1024x2048 : Shape := ⟨2, ![1024, 2048]⟩
abbrev S8x256x2048 : Shape := ⟨3, ![8, 256, 2048]⟩
abbrev S1x256x1024 : Shape := ⟨3, ![1, 256, 1024]⟩
abbrev S1x1x3072 : Shape := ⟨3, ![1, 1, 3072]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S8x1x3072, .f32⟩
  | .hbm, ⟨2, _⟩ => ⟨S1x1024, .f32⟩
  | .hbm, ⟨3, _⟩ => ⟨S1024x4096, .f32⟩
  | .hbm, ⟨4, _⟩ => ⟨S1024x4096, .bf16⟩
  | .hbm, ⟨5, _⟩ => ⟨S1024x2048, .bf16⟩
  | .hbm, ⟨6, _⟩ => ⟨S8x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x2048, .bf16⟩
  | .local _ .vmem, ⟨6, _⟩ => ⟨S1x256x2048, .bf16⟩
  | .local _ .vmem, ⟨7, _⟩ => ⟨S1x256x2048, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceCtxIdeal.lean ====
abbrev S8x256x1024 : Shape := ⟨3, ![8, 256, 1024]⟩
abbrev S8x1x3072 : Shape := ⟨3, ![8, 1, 3072]⟩
abbrev S1x1024 : Shape := ⟨2, ![1, 1024]⟩
abbrev S1024x4096 : Shape := ⟨2, ![1024, 4096]⟩
abbrev S8x1x1024 : Shape := ⟨3, ![8, 1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x4096 : Shape := ⟨3, ![8, 256, 4096]⟩
abbrev S8x256x2048 : Shape := ⟨3, ![8, 256, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x3072, .f32⟩
  | .hbm, ⟨2, _⟩ => ⟨S1x1024, .f32⟩
  | .hbm, ⟨3, _⟩ => ⟨S1024x4096, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S8x256x1024, .f32⟩
  | .hbm, ⟨9, _⟩ => ⟨S_, .f32⟩
  | .hbm, ⟨10, _⟩ => ⟨S8x256, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S8x256x1, .f32⟩
  | .hbm, ⟨19, _⟩ => ⟨S8x256x1024, .f32⟩
  | .hbm, ⟨20, _⟩ => ⟨S8x256x1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x256x1024, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S8x256x4096, .f32⟩
  | .hbm, ⟨32, _⟩ => ⟨S8x256x2048, .f32⟩
  | .hbm, ⟨33, _⟩ => ⟨S8x256x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== KernelMod.lean ====
abbrev S16x1024 : Shape := ⟨2, ![16, 1024]⟩
abbrev S1024x3072 : Shape := ⟨2, ![1024, 3072]⟩
abbrev S1x3072 : Shape := ⟨2, ![1, 3072]⟩
abbrev S2x2x512 : Shape := ⟨3, ![2, 2, 512]⟩
abbrev S2x1024 : Shape := ⟨2, ![2, 1024]⟩
abbrev S16x3072 : Shape := ⟨2, ![16, 3072]⟩
abbrev S8x1024 : Shape := ⟨2, ![8, 1024]⟩
abbrev S1024x512 : Shape := ⟨2, ![1024, 512]⟩
abbrev S1x512 : Shape := ⟨2, ![1, 512]⟩
abbrev S16x512 : Shape := ⟨2, ![16, 512]⟩
abbrev S1024 : Shape := ⟨1, ![1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S1024x3072, .f32⟩
  | .hbm, ⟨2, _⟩ => ⟨S1x3072, .f32⟩
  | .hbm, ⟨3, _⟩ => ⟨S2x2x512, .f32⟩
  | .hbm, ⟨4, _⟩ => ⟨S2x1024, .f32⟩
  | .hbm, ⟨5, _⟩ => ⟨S16x3072, .f32⟩
  | .hbm, ⟨6, _⟩ => ⟨S8x1024, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S2x1024, .f32⟩
  | .local _ .vmem, ⟨6, _⟩ => ⟨S16x512, .f32⟩
  | .local _ .vmem, ⟨7, _⟩ => ⟨S16x512, .f32⟩
  | .local _ .vmem, ⟨8, _⟩ => ⟨S8x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceModIdeal.lean ====
abbrev S16x1024 : Shape := ⟨2, ![16, 1024]⟩
abbrev S1024x3072 : Shape := ⟨2, ![1024, 3072]⟩
abbrev S1x3072 : Shape := ⟨2, ![1, 3072]⟩
abbrev S2x2x512 : Shape := ⟨3, ![2, 2, 512]⟩
abbrev S_ : Shape := ⟨0, ![]⟩
abbrev S2x512 : Shape := ⟨2, ![2, 512]⟩
abbrev S1x2x512 : Shape := ⟨3, ![1, 2, 512]⟩
abbrev S16x3072 : Shape := ⟨2, ![16, 3072]⟩
abbrev S3072 : Shape := ⟨1, ![3072]⟩
abbrev S1x1024 : Shape := ⟨2, ![1, 1024]⟩
abbrev S8x1024 : Shape := ⟨2, ![8, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x3072, .f32⟩
  | .hbm, ⟨2, _⟩ => ⟨S1x3072, .f32⟩
  | .hbm, ⟨3, _⟩ => ⟨S2x2x512, .f32⟩
  | .hbm, ⟨4, _⟩ => ⟨S_, .f32⟩
  | .hbm, ⟨5, _⟩ => ⟨S2x512, .f32⟩
  | .hbm, ⟨6, _⟩ => ⟨S_, .f32⟩
  | .hbm, ⟨7, _⟩ => ⟨S2x512, .f32⟩
  | .hbm, ⟨8, _⟩ => ⟨S2x512, .f32⟩
  | .hbm, ⟨9, _⟩ => ⟨S1x2x512, .f32⟩
  | .hbm, ⟨10, _⟩ => ⟨S2x2x512, .f32⟩
  | .hbm, ⟨11, _⟩ => ⟨S2x2x512, .f32⟩
  | .hbm, ⟨12, _⟩ => ⟨S2x2x512, .f32⟩
  | .hbm, ⟨13, _⟩ => ⟨S_, .f32⟩
  | .hbm, ⟨14, _⟩ => ⟨S2x512, .f32⟩
  | .hbm, ⟨15, _⟩ => ⟨S1x2x512, .f32⟩
  | .hbm, ⟨16, _⟩ => ⟨S2x2x512, .f32⟩
  | .hbm, ⟨17, _⟩ => ⟨S2x2x512, .f32⟩
  | .hbm, ⟨18, _⟩ => ⟨S_, .f32⟩
  | .hbm, ⟨19, _⟩ => ⟨S_, .f32⟩
  | .hbm, ⟨20, _⟩ => ⟨S2x2x512, .f32⟩
  | .hbm, ⟨21, _⟩ => ⟨S16x1024, .f32⟩
  | .hbm, ⟨22, _⟩ => ⟨S16x1024, .f32⟩
  | .hbm, ⟨23, _⟩ => ⟨S_, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S16x3072, .f32⟩
  | .hbm, ⟨31, _⟩ => ⟨S3072, .f32⟩
  | .hbm, ⟨32, _⟩ => ⟨S1x3072, .f32⟩
  | .hbm, ⟨33, _⟩ => ⟨S16x3072, .f32⟩
  | .hbm, ⟨34, _⟩ => ⟨S16x3072, .f32⟩
  | .hbm, ⟨35, _⟩ => ⟨S1x2x512, .f32⟩
  | .hbm, ⟨36, _⟩ => ⟨S2x512, .f32⟩
  | .hbm, ⟨37, _⟩ => ⟨S1x1024, .f32⟩
  | .hbm, ⟨38, _⟩ => ⟨S8x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== KernelConv.lean ====
abbrev S8x4096x4096 : Shape := ⟨3, ![8, 4096, 4096]⟩
abbrev S31x512 : Shape := ⟨2, ![31, 512]⟩
abbrev S1x512 : Shape := ⟨2, ![1, 512]⟩
abbrev S8x4096x512 : Shape := ⟨3, ![8, 4096, 512]⟩
abbrev S1x4096x512 : Shape := ⟨3, ![1, 4096, 512]⟩
abbrev S64x96x256 : Shape := ⟨3, ![64, 96, 256]⟩
abbrev S94x64x256 : Shape := ⟨3, ![94, 64, 256]⟩
abbrev S64x16x256 : Shape := ⟨3, ![64, 16, 256]⟩
abbrev S15x64x256 : Shape := ⟨3, ![15, 64, 256]⟩
abbrev S1x64x512 : Shape := ⟨3, ![1, 64, 512]⟩
abbrev S64x512 : Shape := ⟨2, ![64, 512]⟩
abbrev S64x256 : Shape := ⟨2, ![64, 256]⟩
abbrev S1x64x256 : Shape := ⟨3, ![1, 64, 256]⟩
abbrev S1x256 : Shape := ⟨2, ![1, 256]⟩
abbrev S64 : Shape := ⟨1, ![64]⟩
abbrev S64x1 : Shape := ⟨2, ![64, 1]⟩

abbrev nBuf : Space → Nat
  | .hbm => 6
  | .vmem => 14
  | .smem => 0
  | _ => 0

abbrev bufTy : (tb : Table) → Fin (tcTables nBuf tb) → BufTy
  | .hbm, ⟨0, _⟩ => ⟨S8x4096x4096, .bf16⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8x4096x512, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x4096x512, .bf16⟩
  | .local _ .vmem, ⟨11, _⟩ => ⟨S1x4096x512, .bf16⟩
  | .local _ .vmem, ⟨12, _⟩ => ⟨S64x96x256, .f32⟩
  | .local _ .vmem, ⟨13, _⟩ => ⟨S94x64x256, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v16 : BitVec 32 := Scalar.addi c0_i32 c64_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c64_i32_17 : BitVec 32 := 64#32
  let v18 : BitVec 32 := Scalar.muli arg11 c64_i32_17
  v18
def k0_off1 (k0_t1 : Fin k0_t1_loop.trips) : Fin 3 → Nat :=
  let c0_18 : Index := 0#32
  let c0_i32 : BitVec 32 := 0#32
  let c1_i32 : BitVec 32 := 1#32
  let arg11 : BitVec 32 := Scf.iv c0_i32 c1_i32 k0_t1
  let c64_i32_17 : BitVec 32 := 64#32
  let v18 : BitVec 32 := Scalar.muli arg11 c64_i32_17
  let v19 : BitVec 32 := v18
  let v20 : Index := Scalar.indexCast v19
  let c0_19 : Index := 0#32
  ![0, v20.toNat, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v31 : Index := Scalar.indexCast arg11
  let c16 : Index := 16#32
  let c0_22 : Index := 0#32
  ![v31.toNat, 16, 0]
def k0_off3 (k0_t1 : Fin k0_t1_loop.trips) : Fin 3 → Nat :=
  let c15_i32 : BitVec 32 := 15#32
  let c0_i32 : BitVec 32 := 0#32
  let c1_i32 : BitVec 32 := 1#32
  let arg11 : BitVec 32 := Scf.iv c0_i32 c1_i32 k0_t1
  let v36 : BitVec 32 := Scalar.addi c15_i32 arg11
  let v37 : Index := Scalar.indexCast v36
  let c0_23 : Index := 0#32
  let c0_24 : Index := 0#32
  ![v37.toNat, 0, 0]
@[reducible] def k0_t2_loop : Scf.Loop 32 :=
  let c0_i32_13 : BitVec 32 := 0#32
  let c64_i32_14 : BitVec 32 := 64#32
  let v17 : BitVec 32 := Scalar.addi c0_i32_13 c64_i32_14
  let c1_i32_15 : BitVec 32 := 1#32
  ⟨c0_i32_13, v17, c1_i32_15⟩
def k0_mult2 (k0_t2 : Fin k0_t2_loop.trips) : BitVec 32 :=
  let c0_i32_13 : BitVec 32 := 0#32
  let c1_i32_15 : BitVec 32 := 1#32
  let arg11 : BitVec 32 := Scf.iv c0_i32_13 c1_i32_15 k0_t2
  let c64_i32_17 : BitVec 32 := 64#32
  let v18 : BitVec 32 := Scalar.muli arg11 c64_i32_17
  v18
def k0_off4 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v23 : Index := Scalar.indexCast arg11
  let c1 : Index := 1#32
  let c0_22 : Index := 0#32
  ![v23.toNat, 1, 0]
def k0_off5 (k0_t2 : Fin k0_t2_loop.trips) (c0_i32_23 : BitVec 32) : Fin 3 → Nat :=
  let c0_i32_13 : BitVec 32 := 0#32
  let c1_i32_15 : BitVec 32 := 1#32
  let arg11 : BitVec 32 := Scf.iv c0_i32_13 c1_i32_15 k0_t2
  let v30 : BitVec 32 := Scalar.addi arg11 c0_i32_23
  let v31 : Index := Scalar.indexCast v30
  let c0_24 : Index := 0#32
  let c0_25 : Index := 0#32
  ![v31.toNat, 0, 0]
def k0_off6 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v39 : Index := Scalar.indexCast arg11
  let c2 : Index := 2#32
  let c0_28 : Index := 0#32
  ![v39.toNat, 2, 0]
def k0_off7 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v55 : Index := Scalar.indexCast arg11
  let c3 : Index := 3#32
  let c0_34 : Index := 0#32
  ![v55.toNat, 3, 0]
def k0_off8 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v71 : Index := Scalar.indexCast arg11
  let c4 : Index := 4#32
  let c0_39 : Index := 0#32
  ![v71.toNat, 4, 0]
def k0_off9 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v87 : Index := Scalar.indexCast arg11
  let c5 : Index := 5#32
  let c0_44 : Index := 0#32
  ![v87.toNat, 5, 0]
def k0_off10 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v103 : Index := Scalar.indexCast arg11
  let c6 : Index := 6#32
  let c0_49 : Index := 0#32
  ![v103.toNat, 6, 0]
def k0_off11 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v119 : Index := Scalar.indexCast arg11
  let c7 : Index := 7#32
  let c0_54 : Index := 0#32
  ![v119.toNat, 7, 0]
def k0_off12 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v135 : Index := Scalar.indexCast arg11
  let c8 : Index := 8#32
  let c0_59 : Index := 0#32
  ![v135.toNat, 8, 0]
def k0_off13 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v151 : Index := Scalar.indexCast arg11
  let c9 : Index := 9#32
  let c0_64 : Index := 0#32
  ![v151.toNat, 9, 0]
def k0_off14 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v167 : Index := Scalar.indexCast arg11
  let c10 : Index := 10#32
  let c0_69 : Index := 0#32
  ![v167.toNat, 10, 0]
def k0_off15 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v183 : Index := Scalar.indexCast arg11
  let c11 : Index := 11#32
  let c0_74 : Index := 0#32
  ![v183.toNat, 11, 0]
def k0_off16 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v199 : Index := Scalar.indexCast arg11
  let c12 : Index := 12#32
  let c0_79 : Index := 0#32
  ![v199.toNat, 12, 0]
def k0_off17 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v215 : Index := Scalar.indexCast arg11
  let c13 : Index := 13#32
  let c0_84 : Index := 0#32
  ![v215.toNat, 13, 0]
def k0_off18 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v231 : Index := Scalar.indexCast arg11
  let c14 : Index := 14#32
  let c0_89 : Index := 0#32
  ![v231.toNat, 14, 0]
def k0_off19 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v247 : Index := Scalar.indexCast arg11
  let c15 : Index := 15#32
  let c0_94 : Index := 0#32
  ![v247.toNat, 15, 0]
def k0_off20 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v263 : Index := Scalar.indexCast arg11
  let c16 : Index := 16#32
  let c0_99 : Index := 0#32
  ![v263.toNat, 16, 0]
def k0_off21 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v279 : Index := Scalar.indexCast arg11
  let c17 : Index := 17#32
  let c0_104 : Index := 0#32
  ![v279.toNat, 17, 0]
def k0_off22 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v295 : Index := Scalar.indexCast arg11
  let c18 : Index := 18#32
  let c0_109 : Index := 0#32
  ![v295.toNat, 18, 0]
def k0_off23 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v311 : Index := Scalar.indexCast arg11
  let c19 : Index := 19#32
  let c0_114 : Index := 0#32
  ![v311.toNat, 19, 0]
def k0_off24 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v327 : Index := Scalar.indexCast arg11
  let c20 : Index := 20#32
  let c0_119 : Index := 0#32
  ![v327.toNat, 20, 0]
def k0_off25 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v343 : Index := Scalar.indexCast arg11
  let c21 : Index := 21#32
  let c0_124 : Index := 0#32
  ![v343.toNat, 21, 0]
def k0_off26 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v359 : Index := Scalar.indexCast arg11
  let c22 : Index := 22#32
  let c0_129 : Index := 0#32
  ![v359.toNat, 22, 0]
def k0_off27 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v375 : Index := Scalar.indexCast arg11
  let c23 : Index := 23#32
  let c0_134 : Index := 0#32
  ![v375.toNat, 23, 0]
def k0_off28 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v391 : Index := Scalar.indexCast arg11
  let c24 : Index := 24#32
  let c0_139 : Index := 0#32
  ![v391.toNat, 24, 0]
def k0_off29 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v407 : Index := Scalar.indexCast arg11
  let c25 : Index := 25#32
  let c0_144 : Index := 0#32
  ![v407.toNat, 25, 0]
def k0_off30 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v423 : Index := Scalar.indexCast arg11
  let c26 : Index := 26#32
  let c0_149 : Index := 0#32
  ![v423.toNat, 26, 0]
def k0_off31 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v439 : Index := Scalar.indexCast arg11
  let c27 : Index := 27#32
  let c0_154 : Index := 0#32
  ![v439.toNat, 27, 0]
def k0_off32 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v455 : Index := Scalar.indexCast arg11
  let c28 : Index := 28#32
  let c0_159 : Index := 0#32
  ![v455.toNat, 28, 0]
def k0_off33 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v471 : Index := Scalar.indexCast arg11
  let c29 : Index := 29#32
  let c0_164 : Index := 0#32
  ![v471.toNat, 29, 0]
def k0_off34 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v487 : Index := Scalar.indexCast arg11
  let c30 : Index := 30#32
  let c0_169 : Index := 0#32
  ![v487.toNat, 30, 0]
def k0_off35 (k0_t2 : Fin k0_t2_loop.trips) : Fin 3 → Nat :=
  let c0_i32_13 : BitVec 32 := 0#32
  let c1_i32_15 : BitVec 32 := 1#32
  let arg11 : BitVec 32 := Scf.iv c0_i32_13 c1_i32_15 k0_t2
  let v503 : Index := Scalar.indexCast arg11
  let c31 : Index := 31#32
  let c0_174 : Index := 0#32
  ![v503.toNat, 31, 0]
def k0_off36 (k0_t2 : Fin k0_t2_loop.trips) : Fin 3 → Nat :=
  let c0_188 : Index := 0#32
  let c0_i32_13 : BitVec 32 := 0#32
  let c1_i32_15 : BitVec 32 := 1#32
  let arg11 : BitVec 32 := Scf.iv c0_i32_13 c1_i32_15 k0_t2
  let c64_i32_17 : BitVec 32 := 64#32
  let v18 : BitVec 32 := Scalar.muli arg11 c64_i32_17
  let v19 : BitVec 32 := v18
  let v544 : Index := Scalar.indexCast v19
  let c0_189 : Index := 0#32
  ![0, v544.toNat, 0]
def cc0_transform_0 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_1 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_2 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  ![arg0.toNat, c0_i32.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceConvIdeal.lean ====
abbrev S8x4096x4096 : Shape := ⟨3, ![8, 4096, 4096]⟩
abbrev S31x512 : Shape := ⟨2, ![31, 512]⟩
abbrev S1x512 : Shape := ⟨2, ![1, 512]⟩
abbrev S8x4096x512 : Shape := ⟨3, ![8, 4096, 512]⟩
abbrev S_ : Shape := ⟨0, ![]⟩
abbrev S512 : Shape := ⟨1, ![512]⟩
abbrev S8x64x64x512 : Shape := ⟨4, ![8, 64, 64, 512]⟩
abbrev S31x256 : Shape := ⟨2, ![31, 256]⟩
abbrev S1x31x1x256 : Shape := ⟨4, ![1, 31, 1, 256]⟩
abbrev S31x1x1x256 : Shape := ⟨4, ![31, 1, 1, 256]⟩
abbrev S8x64x64x256 : Shape := ⟨4, ![8, 64, 64, 256]⟩
abbrev S8x64x94x256 : Shape := ⟨4, ![8, 64, 94, 256]⟩
abbrev S1x1x1x256 : Shape := ⟨4, ![1, 1, 1, 256]⟩
abbrev S256 : Shape := ⟨1, ![256]⟩
abbrev S8x94x64x256 : Shape := ⟨4, ![8, 94, 64, 256]⟩
abbrev S1x1x512 : Shape := ⟨3, ![1, 1, 512]⟩
abbrev S8x4096 : Shape := ⟨2, ![8, 4096]⟩
abbrev S8x4096x1 : Shape := ⟨3, ![8, 4096, 1]⟩

abbrev nBuf : Space → Nat
  | .hbm => 522
  | .vmem => 0
  | .smem => 0
  | _ => 0

abbrev hbmTy0_0 (i : Nat) : BufTy := match i % 128 with
  | 0 => ⟨S8x4096x4096, .bf16⟩
  | 1 => ⟨S31x512, .f32⟩
  | 2 => ⟨S1x512, .f32⟩
  | 3 => ⟨S1x512, .f32⟩
  | 4 => ⟨S1x512, .f32⟩
  | 5 => ⟨S8x4096x512, .bf16⟩
  | 6 => ⟨S8x4096x512, .f32⟩
  | 7 => ⟨S8x4096x512, .bf16⟩
  | 8 => ⟨S8x4096x512, .f32⟩
  | 9 => ⟨S8x4096x512, .bf16⟩
  | 10 => ⟨S8x4096x512, .f32⟩
  | 11 => ⟨S8x4096x512, .f32⟩
  | 12 => ⟨S8x4096x512, .f32⟩
  | 13 => ⟨S_, .f32⟩
  | 14 => ⟨S8x4096x512, .f32⟩
  | 15 => ⟨S8x4096x512, .f32⟩
  | 16 => ⟨S_, .f32⟩
  | 17 => ⟨S8x4096x512, .f32⟩
  | 18 => ⟨S8x4096x512, .f32⟩
  | 19 => ⟨S8x4096x512, .f32⟩
  | 20 => ⟨S512, .f32⟩
  | 21 => ⟨S512, .f32⟩
  | 22 => ⟨S512, .f32⟩
  | 23 => ⟨S8x64x64x512, .f32⟩
  | 24 => ⟨S31x256, .f32⟩
  | 25 => ⟨S1x31x1x256, .f32⟩
  | 26 => ⟨S31x256, .f32⟩
  | 27 => ⟨S31x1x1x256, .f32⟩
  | 28 => ⟨S8x64x64x256, .f32⟩
  | 29 => ⟨S_, .i32⟩
  | 30 => ⟨S_, .f32⟩
  | 31 => ⟨S8x64x94x256, .f32⟩
  | 32 => ⟨S8x64x64x256, .f32⟩
  | 33 => ⟨S1x1x1x256, .f32⟩
  | 34 => ⟨S256, .f32⟩
  | 35 => ⟨S1x1x1x256, .f32⟩
  | 36 => ⟨S8x64x64x256, .f32⟩
  | 37 => ⟨S8x64x64x256, .f32⟩
  | 38 => ⟨S8x64x64x256, .f32⟩
  | 39 => ⟨S1x1x1x256, .f32⟩
  | 40 => ⟨S256, .f32⟩
  | 41 => ⟨S1x1x1x256, .f32⟩
  | 42 => ⟨S8x64x64x256, .f32⟩
  | 43 => ⟨S8x64x64x256, .f32⟩
  | 44 => ⟨S8x64x64x256, .f32⟩
  | 45 => ⟨S1x1x1x256, .f32⟩
  | 46 => ⟨S256, .f32⟩
  | 47 => ⟨S1x1x1x256, .f32⟩
  | 48 => ⟨S8x64x64x256, .f32⟩
  | 49 => ⟨S8x64x64x256, .f32⟩
  | 50 => ⟨S8x64x64x256, .f32⟩
  | 51 => ⟨S1x1x1x256, .f32⟩
  | 52 => ⟨S256, .f32⟩
  | 53 => ⟨S1x1x1x256, .f32⟩
  | 54 => ⟨S8x64x64x256, .f32⟩
  | 55 => ⟨S8x64x64x256, .f32⟩
  | 56 => ⟨S8x64x64x256, .f32⟩
  | 57 => ⟨S1x1x1x256, .f32⟩
  | 58 => ⟨S256, .f32⟩
  | 59 => ⟨S1x1x1x256, .f32⟩
  | 60 => ⟨S8x64x64x256, .f32⟩
  | 61 => ⟨S8x64x64x256, .f32⟩
  | 62 => ⟨S8x64x64x256, .f32⟩
  | 63 => ⟨S1x1x1x256, .f32⟩
  | 64 => ⟨S256, .f32⟩
  | 65 => ⟨S1x1x1x256, .f32⟩
  | 66 => ⟨S8x64x64x256, .f32⟩
  | 67 => ⟨S8x64x64x256, .f32⟩
  | 68 => ⟨S8x64x64x256, .f32⟩
  | 69 => ⟨S1x1x1x256, .f32⟩
  | 70 => ⟨S256, .f32⟩
  | 71 => ⟨S1x1x1x256, .f32⟩
  | 72 => ⟨S8x64x64x256, .f32⟩
  | 73 => ⟨S8x64x64x256, .f32⟩
  | 74 => ⟨S8x64x64x256, .f32⟩
  | 75 => ⟨S1x1x1x256, .f32⟩
  | 76 => ⟨S256, .f32⟩
  | 77 => ⟨S1x1x1x256, .f32⟩
  | 78 => ⟨S8x64x64x256, .f32⟩
  | 79 => ⟨S8x64x64x256, .f32⟩
  | 80 => ⟨S8x64x64x256, .f32⟩
  | 81 => ⟨S1x1x1x256, .f32⟩
  | 82 => ⟨S256, .f32⟩
  | 83 => ⟨S1x1x1x256, .f32⟩
  | 84 => ⟨S8x64x64x256, .f32⟩
  | 85 => ⟨S8x64x64x256, .f32⟩
  | 86 => ⟨S8x64x64x256, .f32⟩
  | 87 => ⟨S1x1x1x256, .f32⟩
  | 88 => ⟨S256, .f32⟩
  | 89 => ⟨S1x1x1x256, .f32⟩
  | 90 => ⟨S8x64x64x256, .f32⟩
  | 91 => ⟨S8x64x64x256, .f32⟩
  | 92 => ⟨S8x64x64x256, .f32⟩
  | 93 => ⟨S1x1x1x256, .f32⟩
  | 94 => ⟨S256, .f32⟩
  | 95 => ⟨S1x1x1x256, .f32⟩
  | 96 => ⟨S8x64x64x256, .f32⟩
  | 97 => ⟨S8x64x64x256, .f32⟩
  | 98 => ⟨S8x64x64x256, .f32⟩
  | 99 => ⟨S1x1x1x256, .f32⟩
  | 100 => ⟨S256, .f32⟩
  | 101 => ⟨S1x1x1x256, .f32⟩
  | 102 => ⟨S8x64x64x256, .f32⟩
  | 103 => ⟨S8x64x64x256, .f32⟩
  | 104 => ⟨S8x64x64x256, .f32⟩
  | 105 => ⟨S1x1x1x256, .f32⟩
  | 106 => ⟨S256, .f32⟩
  | 107 => ⟨S1x1x1x256, .f32⟩
  | 108 => ⟨S8x64x64x256, .f32⟩
  | 109 => ⟨S8x64x64x256, .f32⟩
  | 110 => ⟨S8x64x64x256, .f32⟩
  | 111 => ⟨S1x1x1x256, .f32⟩
  | 112 => ⟨S256, .f32⟩
  | 113 => ⟨S1x1x1x256, .f32⟩
  | 114 => ⟨S8x64x64x256, .f32⟩
  | 115 => ⟨S8x64x64x256, .f32⟩
  | 116 => ⟨S8x64x64x256, .f32⟩
  | 117 => ⟨S1x1x1x256, .f32⟩
  | 118 => ⟨S256, .f32⟩
  | 119 => ⟨S1x1x1x256, .f32⟩
  | 120 => ⟨S8x64x64x256, .f32⟩
  | 121 => ⟨S8x64x64x256, .f32⟩
  | 122 => ⟨S8x64x64x256, .f32⟩
  | 123 => ⟨S1x1x1x256, .f32⟩
  | 124 => ⟨S256, .f32⟩
  | 125 => ⟨S1x1x1x256, .f32⟩
  | 126 => ⟨S8x64x64x256, .f32⟩
  | 127 => ⟨S8x64x64x256, .f32⟩
  | _ => ⟨S8x4096x4096, .bf16⟩

abbrev hbmTy0_1 (i : Nat) : BufTy := match i % 128 with
  | 0 => ⟨S8x64x64x256, .f32⟩
  | 1 => ⟨S1x1x1x256, .f32⟩
  | 2 => ⟨S256, .f32⟩
  | 3 => ⟨S1x1x1x256, .f32⟩
  | 4 => ⟨S8x64x64x256, .f32⟩
  | 5 => ⟨S8x64x64x256, .f32⟩
  | 6 => ⟨S8x64x64x256, .f32⟩
  | 7 => ⟨S1x1x1x256, .f32⟩
  | 8 => ⟨S256, .f32⟩
  | 9 => ⟨S1x1x1x256, .f32⟩
  | 10 => ⟨S8x64x64x256, .f32⟩
  | 11 => ⟨S8x64x64x256, .f32⟩
  | 12 => ⟨S8x64x64x256, .f32⟩
  | 13 => ⟨S1x1x1x256, .f32⟩
  | 14 => ⟨S256, .f32⟩
  | 15 => ⟨S1x1x1x256, .f32⟩
  | 16 => ⟨S8x64x64x256, .f32⟩
  | 17 => ⟨S8x64x64x256, .f32⟩
  | 18 => ⟨S8x64x64x256, .f32⟩
  | 19 => ⟨S1x1x1x256, .f32⟩
  | 20 => ⟨S256, .f32⟩
  | 21 => ⟨S1x1x1x256, .f32⟩
  | 22 => ⟨S8x64x64x256, .f32⟩
  | 23 => ⟨S8x64x64x256, .f32⟩
  | 24 => ⟨S8x64x64x256, .f32⟩
  | 25 => ⟨S1x1x1x256, .f32⟩
  | 26 => ⟨S256, .f32⟩
  | 27 => ⟨S1x1x1x256, .f32⟩
  | 28 => ⟨S8x64x64x256, .f32⟩
  | 29 => ⟨S8x64x64x256, .f32⟩
  | 30 => ⟨S8x64x64x256, .f32⟩
  | 31 => ⟨S1x1x1x256, .f32⟩
  | 32 => ⟨S256, .f32⟩
  | 33 => ⟨S1x1x1x256, .f32⟩
  | 34 => ⟨S8x64x64x256, .f32⟩
  | 35 => ⟨S8x64x64x256, .f32⟩
  | 36 => ⟨S8x64x64x256, .f32⟩
  | 37 => ⟨S1x1x1x256, .f32⟩
  | 38 => ⟨S256, .f32⟩
  | 39 => ⟨S1x1x1x256, .f32⟩
  | 40 => ⟨S8x64x64x256, .f32⟩
  | 41 => ⟨S8x64x64x256, .f32⟩
  | 42 => ⟨S8x64x64x256, .f32⟩
  | 43 => ⟨S1x1x1x256, .f32⟩
  | 44 => ⟨S256, .f32⟩
  | 45 => ⟨S1x1x1x256, .f32⟩
  | 46 => ⟨S8x64x64x256, .f32⟩
  | 47 => ⟨S8x64x64x256, .f32⟩
  | 48 => ⟨S8x64x64x256, .f32⟩
  | 49 => ⟨S1x1x1x256, .f32⟩
  | 50 => ⟨S256, .f32⟩
  | 51 => ⟨S1x1x1x256, .f32⟩
  | 52 => ⟨S8x64x64x256, .f32⟩
  | 53 => ⟨S8x64x64x256, .f32⟩
  | 54 => ⟨S8x64x64x256, .f32⟩
  | 55 => ⟨S1x1x1x256, .f32⟩
  | 56 => ⟨S256, .f32⟩
  | 57 => ⟨S1x1x1x256, .f32⟩
  | 58 => ⟨S8x64x64x256, .f32⟩
  | 59 => ⟨S8x64x64x256, .f32⟩
  | 60 => ⟨S8x64x64x256, .f32⟩
  | 61 => ⟨S1x1x1x256, .f32⟩
  | 62 => ⟨S256, .f32⟩
  | 63 => ⟨S1x1x1x256, .f32⟩
  | 64 => ⟨S8x64x64x256, .f32⟩
  | 65 => ⟨S8x64x64x256, .f32⟩
  | 66 => ⟨S8x64x64x256, .f32⟩
  | 67 => ⟨S1x1x1x256, .f32⟩
  | 68 => ⟨S256, .f32⟩
  | 69 => ⟨S1x1x1x256, .f32⟩
  | 70 => ⟨S8x64x64x256, .f32⟩
  | 71 => ⟨S8x64x64x256, .f32⟩
  | 72 => ⟨S8x64x64x256, .f32⟩
  | 73 => ⟨S1x1x1x256, .f32⟩
  | 74 => ⟨S256, .f32⟩
  | 75 => ⟨S1x1x1x256, .f32⟩
  | 76 => ⟨S8x64x64x256, .f32⟩
  | 77 => ⟨S8x64x64x256, .f32⟩
  | 78 => ⟨S8x64x64x256, .f32⟩
  | 79 => ⟨S1x1x1x256, .f32⟩
  | 80 => ⟨S256, .f32⟩
  | 81 => ⟨S1x1x1x256, .f32⟩
  | 82 => ⟨S8x64x64x256, .f32⟩
  | 83 => ⟨S8x64x64x256, .f32⟩
  | 84 => ⟨S8x64x64x256, .f32⟩
  | 85 => ⟨S1x1x1x256, .f32⟩
  | 86 => ⟨S256, .f32⟩
  | 87 => ⟨S1x1x1x256, .f32⟩
  | 88 => ⟨S8x64x64x256, .f32⟩
  | 89 => ⟨S8x64x64x256, .f32⟩
  | 90 => ⟨S8x64x64x256, .f32⟩
  | 91 => ⟨S8x64x64x256, .f32⟩
  | 92 => ⟨S8x64x64x256, .f32⟩
  | 93 => ⟨S8x64x64x256, .f32⟩
  | 94 => ⟨S8x64x64x256, .f32⟩
  | 95 => ⟨S8x64x64x256, .f32⟩
  | 96 => ⟨S8x64x64x256, .f32⟩
  | 97 => ⟨S8x64x64x256, .f32⟩
  | 98 => ⟨S8x64x64x256, .f32⟩
  | 99 => ⟨S8x64x64x256, .f32⟩
  | 100 => ⟨S8x64x64x256, .f32⟩
  | 101 => ⟨S8x64x64x256, .f32⟩
  | 102 => ⟨S8x64x64x256, .f32⟩
  | 103 => ⟨S8x64x64x256, .f32⟩
  | 104 => ⟨S8x64x64x256, .f32⟩
  | 105 => ⟨S8x64x64x256, .f32⟩
  | 106 => ⟨S8x64x64x256, .f32⟩
  | 107 => ⟨S8x64x64x256, .f32⟩
  | 108 => ⟨S8x64x64x256, .f32⟩
  | 109 => ⟨S8x64x64x256, .f32⟩
  | 110 => ⟨S8x64x64x256, .f32⟩
  | 111 => ⟨S8x64x64x256, .f32⟩
  | 112 => ⟨S8x64x64x256, .f32⟩
  | 113 => ⟨S8x64x64x256, .f32⟩
  | 114 => ⟨S8x64x64x256, .f32⟩
  | 115 => ⟨S8x64x64x256, .f32⟩
  | 116 => ⟨S8x64x64x256, .f32⟩
  | 117 => ⟨S8x64x64x256, .f32⟩
  | 118 => ⟨S8x64x64x256, .f32⟩
  | 119 => ⟨S8x64x64x256, .f32⟩
  | 120 => ⟨S8x64x64x256, .f32⟩
  | 121 => ⟨S_, .i32⟩
  | 122 => ⟨S_, .f32⟩
  | 123 => ⟨S8x94x64x256, .f32⟩
  | 124 => ⟨S8x64x64x256, .f32⟩
  | 125 => ⟨S1x1x1x256, .f32⟩
  | 126 => ⟨S256, .f32⟩
  | 127 => ⟨S1x1x1x256, .f32⟩
  | _ => ⟨S8x4096x4096, .bf16⟩

abbrev hbmTy0_2 (i : Nat) : BufTy := match i % 128 with
  | 0 => ⟨S8x64x64x256, .f32⟩
  | 1 => ⟨S8x64x64x256, .f32⟩
  | 2 => ⟨S8x64x64x256, .f32⟩
  | 3 => ⟨S1x1x1x256, .f32⟩
  | 4 => ⟨S256, .f32⟩
  | 5 => ⟨S1x1x1x256, .f32⟩
  | 6 => ⟨S8x64x64x256, .f32⟩
  | 7 => ⟨S8x64x64x256, .f32⟩
  | 8 => ⟨S8x64x64x256, .f32⟩
  | 9 => ⟨S1x1x1x256, .f32⟩
  | 10 => ⟨S256, .f32⟩
  | 11 => ⟨S1x1x1x256, .f32⟩
  | 12 => ⟨S8x64x64x256, .f32⟩
  | 13 => ⟨S8x64x64x256, .f32⟩
  | 14 => ⟨S8x64x64x256, .f32⟩
  | 15 => ⟨S1x1x1x256, .f32⟩
  | 16 => ⟨S256, .f32⟩
  | 17 => ⟨S1x1x1x256, .f32⟩
  | 18 => ⟨S8x64x64x256, .f32⟩
  | 19 => ⟨S8x64x64x256, .f32⟩
  | 20 => ⟨S8x64x64x256, .f32⟩
  | 21 => ⟨S1x1x1x256, .f32⟩
  | 22 => ⟨S256, .f32⟩
  | 23 => ⟨S1x1x1x256, .f32⟩
  | 24 => ⟨S8x64x64x256, .f32⟩
  | 25 => ⟨S8x64x64x256, .f32⟩
  | 26 => ⟨S8x64x64x256, .f32⟩
  | 27 => ⟨S1x1x1x256, .f32⟩
  | 28 => ⟨S256, .f32⟩
  | 29 => ⟨S1x1x1x256, .f32⟩
  | 30 => ⟨S8x64x64x256, .f32⟩
  | 31 => ⟨S8x64x64x256, .f32⟩
  | 32 => ⟨S8x64x64x256, .f32⟩
  | 33 => ⟨S1x1x1x256, .f32⟩
  | 34 => ⟨S256, .f32⟩
  | 35 => ⟨S1x1x1x256, .f32⟩
  | 36 => ⟨S8x64x64x256, .f32⟩
  | 37 => ⟨S8x64x64x256, .f32⟩
  | 38 => ⟨S8x64x64x256, .f32⟩
  | 39 => ⟨S1x1x1x256, .f32⟩
  | 40 => ⟨S256, .f32⟩
  | 41 => ⟨S1x1x1x256, .f32⟩
  | 42 => ⟨S8x64x64x256, .f32⟩
  | 43 => ⟨S8x64x64x256, .f32⟩
  | 44 => ⟨S8x64x64x256, .f32⟩
  | 45 => ⟨S1x1x1x256, .f32⟩
  | 46 => ⟨S256, .f32⟩
  | 47 => ⟨S1x1x1x256, .f32⟩
  | 48 => ⟨S8x64x64x256, .f32⟩
  | 49 => ⟨S8x64x64x256, .f32⟩
  | 50 => ⟨S8x64x64x256, .f32⟩
  | 51 => ⟨S1x1x1x256, .f32⟩
  | 52 => ⟨S256, .f32⟩
  | 53 => ⟨S1x1x1x256, .f32⟩
  | 54 => ⟨S8x64x64x256, .f32⟩
  | 55 => ⟨S8x64x64x256, .f32⟩
  | 56 => ⟨S8x64x64x256, .f32⟩
  | 57 => ⟨S1x1x1x256, .f32⟩
  | 58 => ⟨S256, .f32⟩
  | 59 => ⟨S1x1x1x256, .f32⟩
  | 60 => ⟨S8x64x64x256, .f32⟩
  | 61 => ⟨S8x64x64x256, .f32⟩
  | 62 => ⟨S8x64x64x256, .f32⟩
  | 63 => ⟨S1x1x1x256, .f32⟩
  | 64 => ⟨S256, .f32⟩
  | 65 => ⟨S1x1x1x256, .f32⟩
  | 66 => ⟨S8x64x64x256, .f32⟩
  | 67 => ⟨S8x64x64x256, .f32⟩
  | 68 => ⟨S8x64x64x256, .f32⟩
  | 69 => ⟨S1x1x1x256, .f32⟩
  | 70 => ⟨S256, .f32⟩
  | 71 => ⟨S1x1x1x256, .f32⟩
  | 72 => ⟨S8x64x64x256, .f32⟩
  | 73 => ⟨S8x64x64x256, .f32⟩
  | 74 => ⟨S8x64x64x256, .f32⟩
  | 75 => ⟨S1x1x1x256, .f32⟩
  | 76 => ⟨S256, .f32⟩
  | 77 => ⟨S1x1x1x256, .f32⟩
  | 78 => ⟨S8x64x64x256, .f32⟩
  | 79 => ⟨S8x64x64x256, .f32⟩
  | 80 => ⟨S8x64x64x256, .f32⟩
  | 81 => ⟨S1x1x1x256, .f32⟩
  | 82 => ⟨S256, .f32⟩
  | 83 => ⟨S1x1x1x256, .f32⟩
  | 84 => ⟨S8x64x64x256, .f32⟩
  | 85 => ⟨S8x64x64x256, .f32⟩
  | 86 => ⟨S8x64x64x256, .f32⟩
  | 87 => ⟨S1x1x1x256, .f32⟩
  | 88 => ⟨S256, .f32⟩
  | 89 => ⟨S1x1x1x256, .f32⟩
  | 90 => ⟨S8x64x64x256, .f32⟩
  | 91 => ⟨S8x64x64x256, .f32⟩
  | 92 => ⟨S8x64x64x256, .f32⟩
  | 93 => ⟨S1x1x1x256, .f32⟩
  | 94 => ⟨S256, .f32⟩
  | 95 => ⟨S1x1x1x256, .f32⟩
  | 96 => ⟨S8x64x64x256, .f32⟩
  | 97 => ⟨S8x64x64x256, .f32⟩
  | 98 => ⟨S8x64x64x256, .f32⟩
  | 99 => ⟨S1x1x1x256, .f32⟩
  | 100 => ⟨S256, .f32⟩
  | 101 => ⟨S1x1x1x256, .f32⟩
  | 102 => ⟨S8x64x64x256, .f32⟩
  | 103 => ⟨S8x64x64x256, .f32⟩
  | 104 => ⟨S8x64x64x256, .f32⟩
  | 105 => ⟨S1x1x1x256, .f32⟩
  | 106 => ⟨S256, .f32⟩
  | 107 => ⟨S1x1x1x256, .f32⟩
  | 108 => ⟨S8x64x64x256, .f32⟩
  | 109 => ⟨S8x64x64x256, .f32⟩
  | 110 => ⟨S8x64x64x256, .f32⟩
  | 111 => ⟨S1x1x1x256, .f32⟩
  | 112 => ⟨S256, .f32⟩
  | 113 => ⟨S1x1x1x256, .f32⟩
  | 114 => ⟨S8x64x64x256, .f32⟩
  | 115 => ⟨S8x64x64x256, .f32⟩
  | 116 => ⟨S8x64x64x256, .f32⟩
  | 117 => ⟨S1x1x1x256, .f32⟩
  | 118 => ⟨S256, .f32⟩
  | 119 => ⟨S1x1x1x256, .f32⟩
  | 120 => ⟨S8x64x64x256, .f32⟩
  | 121 => ⟨S8x64x64x256, .f32⟩
  | 122 => ⟨S8x64x64x256, .f32⟩
  | 123 => ⟨S1x1x1x256, .f32⟩
  | 124 => ⟨S256, .f32⟩
  | 125 => ⟨S1x1x1x256, .f32⟩
  | 126 => ⟨S8x64x64x256, .f32⟩
  | 127 => ⟨S8x64x64x256, .f32⟩
  | _ => ⟨S8x4096x4096, .bf16⟩

abbrev hbmTy0_3 (i : Nat) : BufTy := match i % 128 with
  | 0 => ⟨S8x64x64x256, .f32⟩
  | 1 => ⟨S1x1x1x256, .f32⟩
  | 2 => ⟨S256, .f32⟩
  | 3 => ⟨S1x1x1x256, .f32⟩
  | 4 => ⟨S8x64x64x256, .f32⟩
  | 5 => ⟨S8x64x64x256, .f32⟩
  | 6 => ⟨S8x64x64x256, .f32⟩
  | 7 => ⟨S1x1x1x256, .f32⟩
  | 8 => ⟨S256, .f32⟩
  | 9 => ⟨S1x1x1x256, .f32⟩
  | 10 => ⟨S8x64x64x256, .f32⟩
  | 11 => ⟨S8x64x64x256, .f32⟩
  | 12 => ⟨S8x64x64x256, .f32⟩
  | 13 => ⟨S1x1x1x256, .f32⟩
  | 14 => ⟨S256, .f32⟩
  | 15 => ⟨S1x1x1x256, .f32⟩
  | 16 => ⟨S8x64x64x256, .f32⟩
  | 17 => ⟨S8x64x64x256, .f32⟩
  | 18 => ⟨S8x64x64x256, .f32⟩
  | 19 => ⟨S1x1x1x256, .f32⟩
  | 20 => ⟨S256, .f32⟩
  | 21 => ⟨S1x1x1x256, .f32⟩
  | 22 => ⟨S8x64x64x256, .f32⟩
  | 23 => ⟨S8x64x64x256, .f32⟩
  | 24 => ⟨S8x64x64x256, .f32⟩
  | 25 => ⟨S1x1x1x256, .f32⟩
  | 26 => ⟨S256, .f32⟩
  | 27 => ⟨S1x1x1x256, .f32⟩
  | 28 => ⟨S8x64x64x256, .f32⟩
  | 29 => ⟨S8x64x64x256, .f32⟩
  | 30 => ⟨S8x64x64x256, .f32⟩
  | 31 => ⟨S1x1x1x256, .f32⟩
  | 32 => ⟨S256, .f32⟩
  | 33 => ⟨S1x1x1x256, .f32⟩
  | 34 => ⟨S8x64x64x256, .f32⟩
  | 35 => ⟨S8x64x64x256, .f32⟩
  | 36 => ⟨S8x64x64x256, .f32⟩
  | 37 => ⟨S1x1x1x256, .f32⟩
  | 38 => ⟨S256, .f32⟩
  | 39 => ⟨S1x1x1x256, .f32⟩
  | 40 => ⟨S8x64x64x256, .f32⟩
  | 41 => ⟨S8x64x64x256, .f32⟩
  | 42 => ⟨S8x64x64x256, .f32⟩
  | 43 => ⟨S1x1x1x256, .f32⟩
  | 44 => ⟨S256, .f32⟩
  | 45 => ⟨S1x1x1x256, .f32⟩
  | 46 => ⟨S8x64x64x256, .f32⟩
  | 47 => ⟨S8x64x64x256, .f32⟩
  | 48 => ⟨S8x64x64x256, .f32⟩
  | 49 => ⟨S1x1x1x256, .f32⟩
  | 50 => ⟨S256, .f32⟩
  | 51 => ⟨S1x1x1x256, .f32⟩
  | 52 => ⟨S8x64x64x256, .f32⟩
  | 53 => ⟨S8x64x64x256, .f32⟩
  | 54 => ⟨S8x64x64x256, .f32⟩
  | 55 => ⟨S8x64x64x256, .f32⟩
  | 56 => ⟨S8x64x64x256, .f32⟩
  | 57 => ⟨S8x64x64x256, .f32⟩
  | 58 => ⟨S8x64x64x256, .f32⟩
  | 59 => ⟨S8x64x64x256, .f32⟩
  | 60 => ⟨S8x64x64x256, .f32⟩
  | 61 => ⟨S8x64x64x256, .f32⟩
  | 62 => ⟨S8x64x64x256, .f32⟩
  | 63 => ⟨S8x64x64x256, .f32⟩
  | 64 => ⟨S8x64x64x256, .f32⟩
  | 65 => ⟨S8x64x64x256, .f32⟩
  | 66 => ⟨S8x64x64x256, .f32⟩
  | 67 => ⟨S8x64x64x256, .f32⟩
  | 68 => ⟨S8x64x64x256, .f32⟩
  | 69 => ⟨S8x64x64x256, .f32⟩
  | 70 => ⟨S8x64x64x256, .f32⟩
  | 71 => ⟨S8x64x64x256, .f32⟩
  | 72 => ⟨S8x64x64x256, .f32⟩
  | 73 => ⟨S8x64x64x256, .f32⟩
  | 74 => ⟨S8x64x64x256, .f32⟩
  | 75 => ⟨S8x64x64x256, .f32⟩
  | 76 => ⟨S8x64x64x256, .f32⟩
  | 77 => ⟨S8x64x64x256, .f32⟩
  | 78 => ⟨S8x64x64x256, .f32⟩
  | 79 => ⟨S8x64x64x256, .f32⟩
  | 80 => ⟨S8x64x64x256, .f32⟩
  | 81 => ⟨S8x64x64x256, .f32⟩
  | 82 => ⟨S8x64x64x256, .f32⟩
  | 83 => ⟨S8x64x64x256, .f32⟩
  | 84 => ⟨S8x64x64x512, .f32⟩
  | 85 => ⟨S8x4096x512, .f32⟩
  | 86 => ⟨S1x1x512, .f32⟩
  | 87 => ⟨S8x4096x512, .f32⟩
  | 88 => ⟨S8x4096x512, .f32⟩
  | 89 => ⟨S_, .f32⟩
  | 90 => ⟨S8x4096, .f32⟩
  | 91 => ⟨S8x4096x1, .f32⟩
  | 92 => ⟨S_, .f32⟩
  | 93 => ⟨S8x4096x1, .f32⟩
  | 94 => ⟨S8x4096x1, .f32⟩
  | 95 => ⟨S8x4096x512, .f32⟩
  | 96 => ⟨S8x4096x512, .f32⟩
  | 97 => ⟨S8x4096x512, .f32⟩
  | 98 => ⟨S_, .f32⟩
  | 99 => ⟨S8x4096, .f32⟩
  | 100 => ⟨S8x4096x1, .f32⟩
  | 101 => ⟨S_, .f32⟩
  | 102 => ⟨S8x4096x1, .f32⟩
  | 103 => ⟨S8x4096x1, .f32⟩
  | 104 => ⟨S8x4096x512, .f32⟩
  | 105 => ⟨S8x4096x512, .f32⟩
  | 106 => ⟨S_, .f32⟩
  | 107 => ⟨S8x4096x1, .f32⟩
  | 108 => ⟨S8x4096x1, .f32⟩
  | 109 => ⟨S8x4096x1, .f32⟩
  | 110 => ⟨S8x4096x512, .f32⟩
  | 111 => ⟨S8x4096x512, .f32⟩
  | 112 => ⟨S1x1x512, .f32⟩
  | 113 => ⟨S8x4096x512, .f32⟩
  | 114 => ⟨S8x4096x512, .f32⟩
  | 115 => ⟨S1x1x512, .f32⟩
  | 116 => ⟨S8x4096x512, .f32⟩
  | 117 => ⟨S8x4096x512, .f32⟩
  | 118 => ⟨S8x4096x512, .f32⟩
  | 119 => ⟨S8x4096x512, .f32⟩
  | 120 => ⟨S_, .f32⟩
  | 121 => ⟨S8x4096x512, .f32⟩
  | 122 => ⟨S8x4096x512, .f32⟩
  | 123 => ⟨S_, .f32⟩
  | 124 => ⟨S8x4096x512, .f32⟩
  | 125 => ⟨S8x4096x512, .f32⟩
  | 126 => ⟨S8x4096x512, .f32⟩
  | 127 => ⟨S8x4096x512, .f32⟩
  | _ => ⟨S8x4096x4096, .bf16⟩

abbrev hbmTy0_4 (i : Nat) : BufTy := match i % 128 with
  | 0 => ⟨S8x4096x512, .f32⟩
  | 1 => ⟨S_, .f32⟩
  | 2 => ⟨S8x4096x512, .f32⟩
  | 3 => ⟨S8x4096x512, .f32⟩
  | 4 => ⟨S_, .f32⟩
  | 5 => ⟨S8x4096x512, .f32⟩
  | 6 => ⟨S8x4096x512, .f32⟩
  | 7 => ⟨S8x4096x512, .f32⟩
  | 8 => ⟨S8x4096x512, .f32⟩
  | 9 => ⟨S8x4096x512, .bf16⟩
  | _ => ⟨S8x4096x4096, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x4096x4096, .bf16⟩

abbrev bufTy : (tb : Table) → Fin (tcTables nBuf tb) → BufTy
  | .hbm, ⟨i, _⟩ => hbmTy i
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_c_1 : Ref sig .tc := ⟨.hbm, 249, rfl⟩
abbrev main_call1_v0 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_v249 : Ref sig .tc := ⟨.hbm, 260, rfl⟩
abbrev main_v250 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_v254 : Ref sig .tc := ⟨.hbm, 265, rfl⟩
abbrev main_v255 : Ref sig .tc := ⟨.hbm, 266, rfl⟩
abbrev main_v256 : Ref sig .tc := ⟨.hbm, 267, rfl⟩
abbrev main_v257 : Ref sig .tc := ⟨.hbm, 268, rfl⟩
abbrev main_v258 : Ref sig .tc := ⟨.hbm, 269, rfl⟩
abbrev main_v259 : Ref sig .tc := ⟨.hbm, 270, rfl⟩
abbrev main_v260 : Ref sig .tc := ⟨.hbm, 271, rfl⟩
abbrev main_v261 : Ref sig .tc := ⟨.hbm, 272, rfl⟩
abbrev main_v262 : Ref sig .tc := ⟨.hbm, 273, rfl⟩
abbrev main_v263 : Ref sig .tc := ⟨.hbm, 274, rfl⟩
abbrev main_v264 : Ref sig .tc := ⟨.hbm, 275, rfl⟩
abbrev main_v265 : Ref sig .tc := ⟨.hbm, 276, rfl⟩
abbrev main_v266 : Ref sig .tc := ⟨.hbm, 277, rfl⟩
abbrev main_v267 : Ref sig .tc := ⟨.hbm, 278, rfl⟩
abbrev main_v268 : Ref sig .tc := ⟨.hbm, 279, rfl⟩
abbrev main_v269 : Ref sig .tc := ⟨.hbm, 280, rfl⟩
abbrev main_v270 : Ref sig .tc := ⟨.hbm, 281, rfl⟩
abbrev main_v271 : Ref sig .tc := ⟨.hbm, 282, rfl⟩
abbrev main_v272 : Ref sig .tc := ⟨.hbm, 283, rfl⟩
abbrev main_v273 : Ref sig .tc := ⟨.hbm, 284, rfl⟩
abbrev main_v274 : Ref sig .tc := ⟨.hbm, 285, rfl⟩
abbrev main_v275 : Ref sig .tc := ⟨.hbm, 286, rfl⟩
abbrev main_v276 : Ref sig .tc := ⟨.hbm, 287, rfl⟩
abbrev main_v277 : Ref sig .tc := ⟨.hbm, 288, rfl⟩
abbrev main_v278 : Ref sig .tc := ⟨.hbm, 289, rfl⟩
abbrev main_v279 : Ref sig .tc := ⟨.hbm, 290, rfl⟩
abbrev main_v280 : Ref sig .tc := ⟨.hbm, 291, rfl⟩
abbrev main_v281 : Ref sig .tc := ⟨.hbm, 292, rfl⟩
abbrev main_v282 : Ref sig .tc := ⟨.hbm, 293, rfl⟩
abbrev main_v283 : Ref sig .tc := ⟨.hbm, 294, rfl⟩
abbrev main_v284 : Ref sig .tc := ⟨.hbm, 295, rfl⟩
abbrev main_v285 : Ref sig .tc := ⟨.hbm, 296, rfl⟩
abbrev main_v286 : Ref sig .tc := ⟨.hbm, 297, rfl⟩
abbrev main_v287 : Ref sig .tc := ⟨.hbm, 298, rfl⟩
abbrev main_v288 : Ref sig .tc := ⟨.hbm, 299, rfl⟩
abbrev main_v289 : Ref sig .tc := ⟨.hbm, 300, rfl⟩
abbrev main_v290 : Ref sig .tc := ⟨.hbm, 301, rfl⟩
abbrev main_v291 : Ref sig .tc := ⟨.hbm, 302, rfl⟩
abbrev main_v292 : Ref sig .tc := ⟨.hbm, 303, rfl⟩
abbrev main_v293 : Ref sig .tc := ⟨.hbm, 304, rfl⟩
abbrev main_v294 : Ref sig .tc := ⟨.hbm, 305, rfl⟩
abbrev main_v295 : Ref sig .tc := ⟨.hbm, 306, rfl⟩
abbrev main_v296 : Ref sig .tc := ⟨.hbm, 307, rfl⟩
abbrev main_v297 : Ref sig .tc := ⟨.hbm, 308, rfl⟩
abbrev main_v298 : Ref sig .tc := ⟨.hbm, 309, rfl⟩
abbrev main_v299 : Ref sig .tc := ⟨.hbm, 310, rfl⟩
abbrev main_v300 : Ref sig .tc := ⟨.hbm, 311, rfl⟩
abbrev main_v301 : Ref sig .tc := ⟨.hbm, 312, rfl⟩
abbrev main_v302 : Ref sig .tc := ⟨.hbm, 313, rfl⟩
abbrev main_v303 : Ref sig .tc := ⟨.hbm, 314, rfl⟩
abbrev main_v304 : Ref sig .tc := ⟨.hbm, 315, rfl⟩
abbrev main_v305 : Ref sig .tc := ⟨.hbm, 316, rfl⟩
abbrev main_v306 : Ref sig .tc := ⟨.hbm, 317, rfl⟩
abbrev main_v307 : Ref sig .tc := ⟨.hbm, 318, rfl⟩
abbrev main_v308 : Ref sig .tc := ⟨.hbm, 319, rfl⟩
abbrev main_v309 : Ref sig .tc := ⟨.hbm, 320, rfl⟩
abbrev main_v310 : Ref sig .tc := ⟨.hbm, 321, rfl⟩
abbrev main_v311 : Ref sig .tc := ⟨.hbm, 322, rfl⟩
abbrev main_v312 : Ref sig .tc := ⟨.hbm, 323, rfl⟩
abbrev main_v313 : Ref sig .tc := ⟨.hbm, 324, rfl⟩
abbrev main_v314 : Ref sig .tc := ⟨.hbm, 325, rfl⟩
abbrev main_v315 : Ref sig .tc := ⟨.hbm, 326, rfl⟩
abbrev main_v316 : Ref sig .tc := ⟨.hbm, 327, rfl⟩
abbrev main_v317 : Ref sig .tc := ⟨.hbm, 328, rfl⟩
abbrev main_v318 : Ref sig .tc := ⟨.hbm, 329, rfl⟩
abbrev main_v319 : Ref sig .tc := ⟨.hbm, 330, rfl⟩
abbrev main_v320 : Ref sig .tc := ⟨.hbm, 331, rfl⟩
abbrev main_v321 : Ref sig .tc := ⟨.hbm, 332, rfl⟩
abbrev main_v322 : Ref sig .tc := ⟨.hbm, 333, rfl⟩
abbrev main_v323 : Ref sig .tc := ⟨.hbm, 334, rfl⟩
abbrev main_v324 : Ref sig .tc := ⟨.hbm, 335, rfl⟩
abbrev main_v325 : Ref sig .tc := ⟨.hbm, 336, rfl⟩
abbrev main_v326 : Ref sig .tc := ⟨.hbm, 337, rfl⟩
abbrev main_v327 : Ref sig .tc := ⟨.hbm, 338, rfl⟩
abbrev main_v328 : Ref sig .tc := ⟨.hbm, 339, rfl⟩
abbrev main_v329 : Ref sig .tc := ⟨.hbm, 340, rfl⟩
abbrev main_v330 : Ref sig .tc := ⟨.hbm, 341, rfl⟩
abbrev main_v331 : Ref sig .tc := ⟨.hbm, 342, rfl⟩
abbrev main_v332 : Ref sig .tc := ⟨.hbm, 343, rfl⟩
abbrev main_v333 : Ref sig .tc := ⟨.hbm, 344, rfl⟩
abbrev main_v334 : Ref sig .tc := ⟨.hbm, 345, rfl⟩
abbrev main_v335 : Ref sig .tc := ⟨.hbm, 346, rfl⟩
abbrev main_v336 : Ref sig .tc := ⟨.hbm, 347, rfl⟩
abbrev main_v337 : Ref sig .tc := ⟨.hbm, 348, rfl⟩
abbrev main_v338 : Ref sig .tc := ⟨.hbm, 349, rfl⟩
abbrev main_v339 : Ref sig .tc := ⟨.hbm, 350, rfl⟩
abbrev main_v340 : Ref sig .tc := ⟨.hbm, 351, rfl⟩
abbrev main_v341 : Ref sig .tc := ⟨.hbm, 352, rfl⟩
abbrev main_v342 : Ref sig .tc := ⟨.hbm, 353, rfl⟩
abbrev main_v343 : Ref sig .tc := ⟨.hbm, 354, rfl⟩
abbrev main_v344 : Ref sig .tc := ⟨.hbm, 355, rfl⟩
abbrev main_v345 : Ref sig .tc := ⟨.hbm, 356, rfl⟩
abbrev main_v346 : Ref sig .tc := ⟨.hbm, 357, rfl⟩
abbrev main_v347 : Ref sig .tc := ⟨.hbm, 358, rfl⟩
abbrev main_v348 : Ref sig .tc := ⟨.hbm, 359, rfl⟩
abbrev main_v349 : Ref sig .tc := ⟨.hbm, 360, rfl⟩
abbrev main_v350 : Ref sig .tc := ⟨.hbm, 361, rfl⟩
abbrev main_v351 : Ref sig .tc := ⟨.hbm, 362, rfl⟩
abbrev main_v352 : Ref sig .tc := ⟨.hbm, 363, rfl⟩
abbrev main_v353 : Ref sig .tc := ⟨.hbm, 364, rfl⟩
abbrev main_v354 : Ref sig .tc := ⟨.hbm, 365, rfl⟩
abbrev main_v355 : Ref sig .tc := ⟨.hbm, 366, rfl⟩
abbrev main_v356 : Ref sig .tc := ⟨.hbm, 367, rfl⟩
abbrev main_v357 : Ref sig .tc := ⟨.hbm, 368, rfl⟩
abbrev main_v358 : Ref sig .tc := ⟨.hbm, 369, rfl⟩
abbrev main_v359 : Ref sig .tc := ⟨.hbm, 370, rfl⟩
abbrev main_v360 : Ref sig .tc := ⟨.hbm, 371, rfl⟩
abbrev main_v361 : Ref sig .tc := ⟨.hbm, 372, rfl⟩
abbrev main_v362 : Ref sig .tc := ⟨.hbm, 373, rfl⟩
abbrev main_v363 : Ref sig .tc := ⟨.hbm, 374, rfl⟩
abbrev main_v364 : Ref sig .tc := ⟨.hbm, 375, rfl⟩
abbrev main_v365 : Ref sig .tc := ⟨.hbm, 376, rfl⟩
abbrev main_v366 : Ref sig .tc := ⟨.hbm, 377, rfl⟩
abbrev main_v367 : Ref sig .tc := ⟨.hbm, 378, rfl⟩
abbrev main_v368 : Ref sig .tc := ⟨.hbm, 379, rfl⟩
abbrev main_v369 : Ref sig .tc := ⟨.hbm, 380, rfl⟩
abbrev main_v370 : Ref sig .tc := ⟨.hbm, 381, rfl⟩
abbrev main_v371 : Ref sig .tc := ⟨.hbm, 382, rfl⟩
abbrev main_v372 : Ref sig .tc := ⟨.hbm, 383, rfl⟩
abbrev main_v373 : Ref sig .tc := ⟨.hbm, 384, rfl⟩
abbrev main_v374 : Ref sig .tc := ⟨.hbm, 385, rfl⟩
abbrev main_v375 : Ref sig .tc := ⟨.hbm, 386, rfl⟩
abbrev main_v376 : Ref sig .tc := ⟨.hbm, 387, rfl⟩
abbrev main_v377 : Ref sig .tc := ⟨.hbm, 388, rfl⟩
abbrev main_v378 : Ref sig .tc := ⟨.hbm, 389, rfl⟩
abbrev main_v379 : Ref sig .tc := ⟨.hbm, 390, rfl⟩
abbrev main_v380 : Ref sig .tc := ⟨.hbm, 391, rfl⟩
abbrev main_v381 : Ref sig .tc := ⟨.hbm, 392, rfl⟩
abbrev main_v382 : Ref sig .tc := ⟨.hbm, 393, rfl⟩
abbrev main_v383 : Ref sig .tc := ⟨.hbm, 394, rfl⟩
abbrev main_v384 : Ref sig .tc := ⟨.hbm, 395, rfl⟩
abbrev main_v385 : Ref sig .tc := ⟨.hbm, 396, rfl⟩
abbrev main_v386 : Ref sig .tc := ⟨.hbm, 397, rfl⟩
abbrev main_v387 : Ref sig .tc := ⟨.hbm, 398, rfl⟩
abbrev main_v388 : Ref sig .tc := ⟨.hbm, 399, rfl⟩
abbrev main_v389 : Ref sig .tc := ⟨.hbm, 400, rfl⟩
abbrev main_v390 : Ref sig .tc := ⟨.hbm, 401, rfl⟩
abbrev main_v391 : Ref sig .tc := ⟨.hbm, 402, rfl⟩
abbrev main_v392 : Ref sig .tc := ⟨.hbm, 403, rfl⟩
abbrev main_v393 : Ref sig .tc := ⟨.hbm, 404, rfl⟩
abbrev main_v394 : Ref sig .tc := ⟨.hbm, 405, rfl⟩
abbrev main_v395 : Ref sig .tc := ⟨.hbm, 406, rfl⟩
abbrev main_v396 : Ref sig .tc := ⟨.hbm, 407, rfl⟩
abbrev main_v397 : Ref sig .tc := ⟨.hbm, 408, rfl⟩
abbrev main_v398 : Ref sig .tc := ⟨.hbm, 409, rfl⟩
abbrev main_v399 : Ref sig .tc := ⟨.hbm, 410, rfl⟩
abbrev main_v400 : Ref sig .tc := ⟨.hbm, 411, rfl⟩
abbrev main_v401 : Ref sig .tc := ⟨.hbm, 412, rfl⟩
abbrev main_v402 : Ref sig .tc := ⟨.hbm, 413, rfl⟩
abbrev main_v403 : Ref sig .tc := ⟨.hbm, 414, rfl⟩
abbrev main_v404 : Ref sig .tc := ⟨.hbm, 415, rfl⟩
abbrev main_v405 : Ref sig .tc := ⟨.hbm, 416, rfl⟩
abbrev main_v406 : Ref sig .tc := ⟨.hbm, 417, rfl⟩
abbrev main_v407 : Ref sig .tc := ⟨.hbm, 418, rfl⟩
abbrev main_v408 : Ref sig .tc := ⟨.hbm, 419, rfl⟩
abbrev main_v409 : Ref sig .tc := ⟨.hbm, 420, rfl⟩
abbrev main_v410 : Ref sig .tc := ⟨.hbm, 421, rfl⟩
abbrev main_v411 : Ref sig .tc := ⟨.hbm, 422, rfl⟩
abbrev main_v412 : Ref sig .tc := ⟨.hbm, 423, rfl⟩
abbrev main_v413 : Ref sig .tc := ⟨.hbm, 424, rfl⟩
abbrev main_v414 : Ref sig .tc := ⟨.hbm, 425, rfl⟩
abbrev main_v415 : Ref sig .tc := ⟨.hbm, 426, rfl⟩
abbrev main_v416 : Ref sig .tc := ⟨.hbm, 427, rfl⟩
abbrev main_v417 : Ref sig .tc := ⟨.hbm, 428, rfl⟩
abbrev main_v418 : Ref sig .tc := ⟨.hbm, 429, rfl⟩
abbrev main_v419 : Ref sig .tc := ⟨.hbm, 430, rfl⟩
abbrev main_v420 : Ref sig .tc := ⟨.hbm, 431, rfl⟩
abbrev main_v421 : Ref sig .tc := ⟨.hbm, 432, rfl⟩
abbrev main_v422 : Ref sig .tc := ⟨.hbm, 433, rfl⟩
abbrev main_v423 : Ref sig .tc := ⟨.hbm, 434, rfl⟩
abbrev main_v424 : Ref sig .tc := ⟨.hbm, 435, rfl⟩
abbrev main_v425 : Ref sig .tc := ⟨.hbm, 436, rfl⟩
abbrev main_v426 : Ref sig .tc := ⟨.hbm, 437, rfl⟩
abbrev main_v427 : Ref sig .tc := ⟨.hbm, 438, rfl⟩
abbrev main_v428 : Ref sig .tc := ⟨.hbm, 439, rfl⟩
abbrev main_v429 : Ref sig .tc := ⟨.hbm, 440, rfl⟩
abbrev main_v430 : Ref sig .tc := ⟨.hbm, 441, rfl⟩
abbrev main_v431 : Ref sig .tc := ⟨.hbm, 442, rfl⟩
abbrev main_v432 : Ref sig .tc := ⟨.hbm, 443, rfl⟩
abbrev main_v433 : Ref sig .tc := ⟨.hbm, 444, rfl⟩
abbrev main_v434 : Ref sig .tc := ⟨.hbm, 445, rfl⟩
abbrev main_v435 : Ref sig .tc := ⟨.hbm, 446, rfl⟩
abbrev main_v436 : Ref sig .tc := ⟨.hbm, 447, rfl⟩
abbrev main_v437 : Ref sig .tc := ⟨.hbm, 448, rfl⟩
abbrev main_v438 : Ref sig .tc := ⟨.hbm, 449, rfl⟩
abbrev main_v439 : Ref sig .tc := ⟨.hbm, 450, rfl⟩
abbrev main_v440 : Ref sig .tc := ⟨.hbm, 451, rfl⟩
abbrev main_v441 : Ref sig .tc := ⟨.hbm, 452, rfl⟩
abbrev main_v442 : Ref sig .tc := ⟨.hbm, 453, rfl⟩
abbrev main_v443 : Ref sig .tc := ⟨.hbm, 454, rfl⟩
abbrev main_v444 : Ref sig .tc := ⟨.hbm, 455, rfl⟩
abbrev main_v445 : Ref sig .tc := ⟨.hbm, 456, rfl⟩
abbrev main_v446 : Ref sig .tc := ⟨.hbm, 457, rfl⟩
abbrev main_v447 : Ref sig .tc := ⟨.hbm, 458, rfl⟩
abbrev main_v448 : Ref sig .tc := ⟨.hbm, 459, rfl⟩
abbrev main_v449 : Ref sig .tc := ⟨.hbm, 460, rfl⟩
abbrev main_v450 : Ref sig .tc := ⟨.hbm, 461, rfl⟩
abbrev main_v451 : Ref sig .tc := ⟨.hbm, 462, rfl⟩
abbrev main_v452 : Ref sig .tc := ⟨.hbm, 463, rfl⟩
abbrev main_v453 : Ref sig .tc := ⟨.hbm, 464, rfl⟩
abbrev main_v454 : Ref sig .tc := ⟨.hbm, 465, rfl⟩
abbrev main_v455 : Ref sig .tc := ⟨.hbm, 466, rfl⟩
abbrev main_v456 : Ref sig .tc := ⟨.hbm, 467, rfl⟩
abbrev main_v457 : Ref sig .tc := ⟨.hbm, 468, rfl⟩
abbrev main_v458 : Ref sig .tc := ⟨.hbm, 469, rfl⟩
abbrev main_v459 : Ref sig .tc := ⟨.hbm, 470, rfl⟩
abbrev main_v460 : Ref sig .tc := ⟨.hbm, 471, rfl⟩
abbrev main_v461 : Ref sig .tc := ⟨.hbm, 472, rfl⟩
abbrev main_cst_2 : Ref sig .tc := ⟨.hbm, 473, rfl⟩
abbrev main_v462 : Ref sig .tc := ⟨.hbm, 474, rfl⟩
abbrev main_v463 : Ref sig .tc := ⟨.hbm, 475, rfl⟩
abbrev main_cst_3 : Ref sig .tc := ⟨.hbm, 476, rfl⟩
abbrev main_v464 : Ref sig .tc := ⟨.hbm, 477, rfl⟩
abbrev main_v465 : Ref sig .tc := ⟨.hbm, 478, rfl⟩
abbrev main_v466 : Ref sig .tc := ⟨.hbm, 479, rfl⟩
abbrev main_v467 : Ref sig .tc := ⟨.hbm, 480, rfl⟩
abbrev main_v468 : Ref sig .tc := ⟨.hbm, 481, rfl⟩
abbrev main_cst_4 : Ref sig .tc := ⟨.hbm, 482, rfl⟩
abbrev main_v469 : Ref sig .tc := ⟨.hbm, 483, rfl⟩
abbrev main_v470 : Ref sig .tc := ⟨.hbm, 484, rfl⟩
abbrev main_cst_5 : Ref sig .tc := ⟨.hbm, 485, rfl⟩
abbrev main_v471 : Ref sig .tc := ⟨.hbm, 486, rfl⟩
abbrev main_v472 : Ref sig .tc := ⟨.hbm, 487, rfl⟩
abbrev main_v473 : Ref sig .tc := ⟨.hbm, 488, rfl⟩
abbrev main_v474 : Ref sig .tc := ⟨.hbm, 489, rfl⟩
abbrev main_cst_6 : Ref sig .tc := ⟨.hbm, 490, rfl⟩
abbrev main_v475 : Ref sig .tc := ⟨.hbm, 491, rfl⟩
abbrev main_v476 : Ref sig .tc := ⟨.hbm, 492, rfl⟩
abbrev main_v477 : Ref sig .tc := ⟨.hbm, 493, rfl⟩
abbrev main_v478 : Ref sig .tc := ⟨.hbm, 494, rfl⟩
abbrev main_v479 : Ref sig .tc := ⟨.hbm, 495, rfl⟩
abbrev main_v480 : Ref sig .tc := ⟨.hbm, 496, rfl⟩
abbrev main_v481 : Ref sig .tc := ⟨.hbm, 497, rfl⟩
abbrev main_v482 : Ref sig .tc := ⟨.hbm, 498, rfl⟩
abbrev main_v483 : Ref sig .tc := ⟨.hbm, 499, rfl⟩
abbrev main_v484 : Ref sig .tc := ⟨.hbm, 500, rfl⟩
abbrev main_v485 : Ref sig .tc := ⟨.hbm, 501, rfl⟩
abbrev main_call2_v0 : Ref sig .tc := ⟨.hbm, 502, rfl⟩
abbrev main_call2_v1 : Ref sig .tc := ⟨.hbm, 503, rfl⟩
abbrev main_call2_cst : Ref sig .tc := ⟨.hbm, 504, rfl⟩
abbrev main_call2_v2 : Ref sig .tc := ⟨.hbm, 505, rfl⟩
abbrev main_call2_v3 : Ref sig .tc := ⟨.hbm, 506, rfl⟩
abbrev main_call2_cst_0 : Ref sig .tc := ⟨.hbm, 507, rfl⟩
abbrev main_call2_v4 : Ref sig .tc := ⟨.hbm, 508, rfl⟩
abbrev main_call2_v5 : Ref sig .tc := ⟨.hbm, 509, rfl⟩
abbrev main_v486 : Ref sig .tc := ⟨.hbm, 510, rfl⟩
abbrev main_call3_v0 : Ref sig .tc := ⟨.hbm, 511, rfl⟩
abbrev main_call3_v1 : Ref sig .tc := ⟨.hbm, 512, rfl⟩
abbrev main_call3_cst : Ref sig .tc := ⟨.hbm, 513, rfl⟩
abbrev main_call3_v2 : Ref sig .tc := ⟨.hbm, 514, rfl⟩
abbrev main_call3_v3 : Ref sig .tc := ⟨.hbm, 515, rfl⟩
abbrev main_call3_cst_0 : Ref sig .tc := ⟨.hbm, 516, rfl⟩
abbrev main_call3_v4 : Ref sig .tc := ⟨.hbm, 517, rfl⟩
abbrev main_call3_v5 : Ref sig .tc := ⟨.hbm, 518, rfl⟩
abbrev main_v487 : Ref sig .tc := ⟨.hbm, 519, rfl⟩
abbrev main_v488 : Ref sig .tc := ⟨.hbm, 520, rfl⟩
abbrev main_v489 : Ref sig .tc := ⟨.hbm, 521, rfl⟩

abbrev nD : Nat := 1
abbrev τ : Topo := Topo.v7x

variable {F : FTy → Type} [FloatOps F]
-- ==== Proof.lean ====
/-
  The claims. Each generated frame gives its program's, `preserves` holds because no rewrite rule was used. The value claims:
  at the ideal instance each projection's result array is, index by index, one closed expression of the arguments (a sum
  over the 1024 features), which the kernel's blocks and the reference's operations both come to; the modulation's two
  results likewise, its running sum over the layers being the first layer where it is read; and the convolution branch's, whose
  body and launch are proved by hand.
-/
module

public import proofs.«01_k».proof.Defs
public import proofs.«01_k».proof.Proof.Gen.Kernel.Frame
public import proofs.«01_k».proof.Proof.Gen.KernelIdeal.Frame
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.KernelCtx.Frame
public import proofs.«01_k».proof.Proof.Gen.KernelCtxIdeal.Value
public import proofs.«01_k».proof.Proof.Gen.ReferenceCtxIdeal.Run
public import proofs.«01_k».proof.Proof.Gen.KernelMod.Frame
public import proofs.«01_k».proof.Proof.Gen.KernelModIdeal.Value
public import proofs.«01_k».proof.Proof.Gen.ReferenceModIdeal.Run
public import proofs.«01_k».proof.Proof.Gen.KernelConv.Frame
public import proofs.«01_k».proof.Proof.Gen.KernelConvIdeal.Frame.Runs
public import proofs.«01_k».proof.Proof.Gen.ReferenceConvIdeal.Run
public import Idealize.ShloMosaic.Lib.Pipeline.ValueKit.Geometry
public import Idealize.ShloMosaic.Lib.Pointwise
public import Idealize.ShloMosaic.Lib.Quiescent
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! ## The input projection -/

namespace Cert.InProj

/-- One normalised, modulated feature: `v` times the reciprocal root of the mean square (`sq` the sum of squares of the
    row) plus epsilon, times the gain, times one plus the scale, plus the shift. -/
def tok (sq v gain scale shift : EReal) : EReal :=
  v * Ideal.rsqrt (Ideal.div sq (Ideal.ofBits .f32 0x44800000#32) + Ideal.ofBits .f32 0x358637BD#32) * gain * (1 + scale) + shift

section Kernel

open Cert.KernelInIdeal Cert.KernelInIdeal.Gen

/-- What one block leaves at its row `r` and column `j`. -/
def Eat (x0 : Vec Ideal S1x512x1024 .f32) (x1 : Vec Ideal S1x1x3072 .f32) (x2 : Vec Ideal S1x1024 .f32)
    (x3 : Vec Ideal S1024x4096 .bf16) (r : Fin 512) (j : Fin 4096) : EReal :=
  ∑ k : Fin 1024, tok (∑ q : Fin 1024, x0 (ix3 0 r q) * x0 (ix3 0 r q)) (x0 (ix3 0 r k)) (x2 (ix2 0 k))
    (x1 (ix3 0 0 ⟨1024 + k.val, by omega⟩)) (x1 (ix3 0 0 ⟨k.val, by omega⟩)) * x3 (ix2 k j)

/-- What one block leaves. -/
def E (x0 : Vec Ideal S1x512x1024 .f32) (x1 : Vec Ideal S1x1x3072 .f32) (x2 : Vec Ideal S1x1024 .f32)
    (x3 : Vec Ideal S1024x4096 .bf16) : Vec Ideal S1x512x4096 .bf16 := fun y => Eat x0 x1 x2 x3 (y 1) (y 2)

/-- The projected token `(b, r)` at column `j`. -/
def Gat (x : Vec Ideal S8x4096x1024 .f32) (md : Vec Ideal S8x1x3072 .f32) (g : Vec Ideal S1x1024 .f32)
    (w : Vec Ideal S1024x4096 .f32) (b : Fin 8) (r : Fin 4096) (j : Fin 4096) : EReal :=
  ∑ k : Fin 1024, tok (∑ q : Fin 1024, x (ix3 b r q) * x (ix3 b r q)) (x (ix3 b r k)) (g (ix2 0 k))
    (md (ix3 b 0 ⟨1024 + k.val, by omega⟩)) (md (ix3 b 0 ⟨k.val, by omega⟩)) * w (ix2 k j)

/-- The whole result. -/
def G (x : Vec Ideal S8x4096x1024 .f32) (md : Vec Ideal S8x1x3072 .f32) (g : Vec Ideal S1x1024 .f32)
    (w : Vec Ideal S1024x4096 .f32) : Vec Ideal S8x4096x4096 .bf16 := fun i => Gat x md g w (i 0) (i 1) (i 2)

/-- The block the body leaves is `E` of the input blocks: each of the four stored column bands is `E` on its columns. -/
theorem out_apply (x0 : Vec Ideal S1x512x1024 .f32) (x1 : Vec Ideal S1x1x3072 .f32) (x2 : Vec Ideal S1x1024 .f32)
    (x3 : Vec Ideal S1024x4096 .bf16) (y : S1x512x4096.Idx) : out0_4 x0 x1 x2 x3 y = E x0 x1 x2 x3 y := by
  unfold out0_4
  refine View.canon_apply_of_pieces (E x0 x1 x2 x3) _ ?_ y (View.cover_of_tiled [⟨r0_11, _⟩, ⟨r0_9, _⟩, ⟨r0_7, _⟩, ⟨r0_5, _⟩] S1x512x1024.size (by rfl) y)
  intro pc hpc
  rcases List.mem_cons.mp hpc with rfl | hpc
  · intro x
    have hr : r0_11.emb x 1 = x 1 := Fin.ext (by show 0 + 1 * (x 1).val = (x 1).val; omega)
    have hc : r0_11.emb x 2 = (⟨3072 + (x 2).val, by have : (x 2).val < 1024 := (x 2).isLt; omega⟩ : Fin 4096) := Fin.ext (by show 3072 + 1 * (x 2).val = 3072 + (x 2).val; omega)
    show k0_pay3 (k0_pay6 x0 x1 x2 x3) (View.ld x3 r0_10) x = Eat x0 x1 x2 x3 (r0_11.emb x 1) (r0_11.emb x 2)
    rw [hr, hc]
    pointwise [k0_pay3, k0_pay6, k0_pay4, Eat, tok]
  rcases List.mem_cons.mp hpc with rfl | hpc
  · intro x
    have hr : r0_9.emb x 1 = x 1 := Fin.ext (by show 0 + 1 * (x 1).val = (x 1).val; omega)
    have hc : r0_9.emb x 2 = (⟨2048 + (x 2).val, by have : (x 2).val < 1024 := (x 2).isLt; omega⟩ : Fin 4096) := Fin.ext (by show 2048 + 1 * (x 2).val = 2048 + (x 2).val; omega)
    show k0_pay2 (k0_pay6 x0 x1 x2 x3) (View.ld x3 r0_8) x = Eat x0 x1 x2 x3 (r0_9.emb x 1) (r0_9.emb x 2)
    rw [hr, hc]
    pointwise [k0_pay2, k0_pay6, k0_pay4, Eat, tok]
  rcases List.mem_cons.mp hpc with rfl | hpc
  · intro x
    have hr : r0_7.emb x 1 = x 1 := Fin.ext (by show 0 + 1 * (x 1).val = (x 1).val; omega)
    have hc : r0_7.emb x 2 = (⟨1024 + (x 2).val, by have : (x 2).val < 1024 := (x 2).isLt; omega⟩ : Fin 4096) := Fin.ext (by show 1024 + 1 * (x 2).val = 1024 + (x 2).val; omega)
    show k0_pay1 (k0_pay6 x0 x1 x2 x3) (View.ld x3 r0_6) x = Eat x0 x1 x2 x3 (r0_7.emb x 1) (r0_7.emb x 2)
    rw [hr, hc]
    pointwise [k0_pay1, k0_pay6, k0_pay4, Eat, tok]
  rcases List.mem_cons.mp hpc with rfl | hpc
  · intro x
    have hr : r0_5.emb x 1 = x 1 := Fin.ext (by show 0 + 1 * (x 1).val = (x 1).val; omega)
    have hc : r0_5.emb x 2 = (⟨(x 2).val, by have : (x 2).val < 1024 := (x 2).isLt; omega⟩ : Fin 4096) := Fin.ext (by show 0 + 1 * (x 2).val = (x 2).val; omega)
    show k0_pay5 (View.ld x0 r0_0) (View.ld x1 r0_1) (View.ld x1 r0_2) (View.ld x2 r0_3) (View.ld x3 r0_4) x
      = Eat x0 x1 x2 x3 (r0_5.emb x 1) (r0_5.emb x 2)
    rw [hr, hc]
    pointwise [k0_pay5, k0_pay4, Eat, tok]
  nomatch hpc

variable (m : (ℓ : Loc nD τ sig) → Buf (Elt Ideal) ℓ) (ρ : Dev nD → PrngReg)

theorem idx0 : ∀ t : Fin cfg0.N, win0_0.index t = ![t.val / 8, t.val % 8, 0] :=
  (by decide +kernel : ∀ t : Fin grid0.N, win0_0.index t = ![t.val / 8, t.val % 8, 0])
theorem idx1 : ∀ t : Fin cfg0.N, win0_1.index t = ![t.val / 8, 0, 0] :=
  (by decide +kernel : ∀ t : Fin grid0.N, win0_1.index t = ![t.val / 8, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val / 8, t.val % 8, 0] :=
  (by decide +kernel : ∀ t : Fin grid0.N, win0_4.index t = ![t.val / 8, t.val % 8, 0])

/-- The weight the region finds is the argument's: at the ideal instance the cast keeps it. -/
theorem V_w (c : Dev nD) : V m c main_v0 = m ((c : Thread nD τ).loc main_arg3) := by
  unfold V
  after_results
  rfl

set_option maxHeartbeats 1000000 in
/-- If each grid point flushes the body's block of the blocks it staged, the result array ends as `G` of the arguments. -/
theorem final (c : Dev nD) (D : Dat τ (Elt Ideal) Unit ℕ (UR sig nD τ) ℕ cfg0 c)
    (hD : ∀ t : Fin cfg0.N, D.flushed 4 t = (cfg0.win 4).cut (grid0.coords t) (out0_4 (iblk m c 0 t) (iblk m c 1 t) (iblk m c 2 t) (iblk m c 3 t))) :
    D.arrAt 4 cfg0.N = G (m ((c : Thread nD τ).loc main_arg0)) (m ((c : Thread nD τ).loc main_arg1)) (m ((c : Thread nD τ).loc main_arg2)) (m ((c : Thread nD τ).loc main_arg3)) := by
  refine Dat.arrAt_eq_of_covers D 4 _ (by decide +kernel) fun t hf y => ?_
  blk_simp
  have h := congrFun (hD t) y
  blk_simp at h
  refine h.trans ?_
  show out0_4 (iblk m c 0 t) (iblk m c 1 t) (iblk m c 2 t) (iblk m c 3 t) y = _
  rw [out_apply]
  have hN : t.val < 64 := lt_of_lt_of_eq t.isLt N_0
  have e0 : ∀ (r : Fin 512) (k : Fin 1024), iblk m c 0 t (ix3 0 r k : S1x512x1024.Idx)
      = m ((c : Thread nD τ).loc main_arg0) (ix3 ⟨t.val / 8, by omega⟩ ⟨t.val % 8 * 512 + r.val, by omega⟩ k : S8x4096x1024.Idx) := by
    intro r k
    blk_simp [iblk]
    rw [V_main_arg0]
    congr 1
    blk_ext [idx0]
  have e1 : ∀ (k : Fin 3072), iblk m c 1 t (ix3 0 0 k : S1x1x3072.Idx)
      = m ((c : Thread nD τ).loc main_arg1) (ix3 ⟨t.val / 8, by omega⟩ 0 k : S8x1x3072.Idx) := by
    intro k
    blk_simp [iblk]
    rw [V_main_arg1]
    congr 1
    blk_ext [idx1]
  have e2 : ∀ (k : Fin 1024), iblk m c 2 t (ix2 0 k : S1x1024.Idx)
      = m ((c : Thread nD τ).loc main_arg2) (ix2 0 k : S1x1024.Idx) := by
    intro k
    blk_simp [iblk]
    rw [V_main_arg2]
    congr 1
    blk_ext [idx2]
  have e3 : ∀ (k : Fin 1024) (j : Fin 4096), iblk m c 3 t (ix2 k j : S1024x4096.Idx)
      = m ((c : Thread nD τ).loc main_arg3) (ix2 k j : S1024x4096.Idx) := by
    intro k j
    blk_simp [iblk]
    rw [V_w]
    congr 1
    blk_ext [idx3]
  have ey : ((win0_4.blk t).view.emb y : S8x4096x4096.Idx) = ix3 ⟨t.val / 8, by omega⟩ ⟨t.val % 8 * 512 + (y 1).val, by
      have : (y 1).val < 512 := (y 1).isLt
      omega⟩ (y 2) := by
    blk_ext [idx4]
  rw [ey]
  show Eat _ _ _ _ (y 1) (y 2) = Gat _ _ _ _ ⟨t.val / 8, by omega⟩ ⟨t.val % 8 * 512 + (y 1).val, _⟩ (y 2)
  have hr : ∀ (r : Fin 512) (j : Fin 4096) (h : t.val % 8 * 512 + r.val < 4096),
      Eat (iblk m c 0 t) (iblk m c 1 t) (iblk m c 2 t) (iblk m c 3 t) r j
        = Gat (m ((c : Thread nD τ).loc main_arg0)) (m ((c : Thread nD τ).loc main_arg1)) (m ((c : Thread nD τ).loc main_arg2))
            (m ((c : Thread nD τ).loc main_arg3)) ⟨t.val / 8, by omega⟩ ⟨t.val % 8 * 512 + r.val, h⟩ j := by
    intro r j h
    unfold Eat Gat
    simp only [e0, e1, e2, e3]
  exact hr _ _ _

/-- The kernel runs to the end with its result `G` of the arguments and the arguments unchanged. -/
theorem leaves : θ_run defs (onTc (τ := τ) (main (F := Ideal))) ⟨m, fun _ => 0, ρ⟩ fun r => ∀ c : Dev nD,
    r.2.mem ((c : Thread nD τ).loc main_v1) = G (m ((c : Thread nD τ).loc main_arg0)) (m ((c : Thread nD τ).loc main_arg1)) (m ((c : Thread nD τ).loc main_arg2)) (m ((c : Thread nD τ).loc main_arg3))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2))
    ∧ r.2.mem ((c : Thread nD τ).loc main_arg3) = (m ((c : Thread nD τ).loc main_arg3)) := by
  exact (θ_run defs _ _).mono (fun _ h c => ⟨(h c).1.trans (final m c _ (Value.flushed4 m c)), (h c).2⟩) (Value.run_blocks m ρ)

end Kernel

section Reference

open Cert.ReferenceInIdeal Cert.ReferenceInIdeal.Gen

/-- The reference's term of its arguments. -/
def refTerm (x0 : FVec Ideal S8x4096x1024 .f32) (x1 : FVec Ideal S8x1x3072 .f32) (x2 : FVec Ideal S1x1024 .f32)
    (x3 : FVec Ideal S1024x4096 .f32) : FVec Ideal S8x4096x4096 .bf16 :=
  truncf .bf16 (Host.dotGeneral dot_S8x4096x1024_S1024x4096_S8x4096x4096_2_0_01_1_n_n none (addf (mulf (mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ x2 shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] x1 slices_S8x1x3072_S8x1x1024_0_0_1024)))) (broadcastInDim S8x4096x1024 ![0, 1, 2] bcast_S8x1x1024_S8x4096x1024_0_1_2 (extractStridedSlice S8x1x1024 ![0, 0, 0] x1 slices_S8x1x3072_S8x1x1024_0_0_0))) x3) bitsLt_bf16_f32

/-- The reference's product is `G` of its arguments. -/
theorem refValue (x0 : FVec Ideal S8x4096x1024 .f32) (x1 : FVec Ideal S8x1x3072 .f32) (x2 : FVec Ideal S1x1024 .f32)
    (x3 : FVec Ideal S1024x4096 .f32) : refTerm x0 x1 x2 x3 = G x0 x1 x2 x3 := by
  funext i
  idx_vars i
  pointwise [refTerm, G, Gat, tok]

end Reference

open Cert.ReferenceInIdeal in
/-- The reference runs to the end with its arguments unchanged and no semaphore left. -/
theorem quiescent_reference : Cert.quiescent_ReferenceInIdeal :=
  fun m ρ _ => (θ_run Cert.ReferenceInIdeal.defs _ _).mono (fun r h => ⟨fun c => (h c).2,
    Idealize.ShloMosaic.sem_eq_zero_of_no_sems (by decide) r.2⟩) (Cert.ReferenceInIdeal.Value.run (F := Ideal) m ρ)

/-- Kernel and reference leave the same result. -/
theorem algebraic : Cert.algebraic_KernelInIdeal_ReferenceInIdeal := by
  intro m ρ m' ρ' _ hagree
  refine ⟨_, leaves m ρ, ?_⟩
  · refine (θ_run Cert.ReferenceInIdeal.defs _ _).mono (fun _ h c => ⟨(h c).1.trans ?_, (h c).2⟩)
      (Cert.ReferenceInIdeal.Value.run (F := Ideal) m' ρ')
    refine (refValue _ _ _ _).trans ?_
    rw [(hagree c).1, (hagree c).2.1, (hagree c).2.2.1, (hagree c).2.2.2]

end Cert.InProj

/-! ## The context projection -/

namespace Cert.CtxProj

open Cert.InProj (tok)

section Kernel

open Cert.KernelCtxIdeal Cert.KernelCtxIdeal.Gen

/-- What one block leaves at its row `r` and column `j`. -/
def Eat (x0 : Vec Ideal S1x256x1024 .f32) (x1 : Vec Ideal S1x1x3072 .f32) (x2 : Vec Ideal S1x1024 .f32)
    (x3 : Vec Ideal S1024x2048 .bf16) (r : Fin 256) (j : Fin 2048) : EReal :=
  ∑ k : Fin 1024, tok (∑ q : Fin 1024, x0 (ix3 0 r q) * x0 (ix3 0 r q)) (x0 (ix3 0 r k)) (x2 (ix2 0 k))
    (x1 (ix3 0 0 ⟨1024 + k.val, by omega⟩)) (x1 (ix3 0 0 ⟨k.val, by omega⟩)) * x3 (ix2 k j)

/-- What one block leaves. -/
def E (x0 : Vec Ideal S1x256x1024 .f32) (x1 : Vec Ideal S1x1x3072 .f32) (x2 : Vec Ideal S1x1024 .f32)
    (x3 : Vec Ideal S1024x2048 .bf16) : Vec Ideal S1x256x2048 .bf16 := fun y => Eat x0 x1 x2 x3 (y 1) (y 2)

/-- The projected token `(b, r)` at column `j`. -/
def Gat (x : Vec Ideal S8x256x1024 .f32) (md : Vec Ideal S8x1x3072 .f32) (g : Vec Ideal S1x1024 .f32)
    (w : Vec Ideal S1024x4096 .f32) (b : Fin 8) (r : Fin 256) (j : Fin 2048) : EReal :=
  ∑ k : Fin 1024, tok (∑ q : Fin 1024, x (ix3 b r q) * x (ix3 b r q)) (x (ix3 b r k)) (g (ix2 0 k))
    (md (ix3 b 0 ⟨1024 + k.val, by omega⟩)) (md (ix3 b 0 ⟨k.val, by omega⟩)) * w (ix2 k ⟨j.val, by omega⟩)

/-- The whole result. -/
def G (x : Vec Ideal S8x256x1024 .f32) (md : Vec Ideal S8x1x3072 .f32) (g : Vec Ideal S1x1024 .f32)
    (w : Vec Ideal S1024x4096 .f32) : Vec Ideal S8x256x2048 .bf16 := fun i => Gat x md g w (i 0) (i 1) (i 2)

/-- The block the body leaves is `E` of the input blocks: each of the two stored column bands is `E` on its columns. -/
theorem out_apply (x0 : Vec Ideal S1x256x1024 .f32) (x1 : Vec Ideal S1x1x3072 .f32) (x2 : Vec Ideal S1x1024 .f32)
    (x3 : Vec Ideal S1024x2048 .bf16) (y : S1x256x2048.Idx) : out0_4 x0 x1 x2 x3 y = E x0 x1 x2 x3 y := by
  unfold out0_4
  refine View.canon_apply_of_pieces (E x0 x1 x2 x3) _ ?_ y (View.cover_of_tiled [⟨r0_7, _⟩, ⟨r0_5, _⟩] S1x256x1024.size (by rfl) y)
  intro pc hpc
  rcases List.mem_cons.mp hpc with rfl | hpc
  · intro x
    have hr : r0_7.emb x 1 = x 1 := Fin.ext (by show 0 + 1 * (x 1).val = (x 1).val; omega)
    have hc : r0_7.emb x 2 = (⟨1024 + (x 2).val, by have : (x 2).val < 1024 := (x 2).isLt; omega⟩ : Fin 2048) :=
      Fin.ext (by show 1024 + 1 * (x 2).val = 1024 + (x 2).val; omega)
    show k0_pay1 (k0_pay2 (View.ld x0 r0_0) (View.ld x1 r0_1) (View.ld x1 r0_2) (View.ld x2 r0_3)) (View.ld x3 r0_6) x
      = Eat x0 x1 x2 x3 (r0_7.emb x 1) (r0_7.emb x 2)
    rw [hr, hc]
    pointwise [k0_pay1, k0_pay2, Eat, tok]
  rcases List.mem_cons.mp hpc with rfl | hpc
  · intro x
    have hr : r0_5.emb x 1 = x 1 := Fin.ext (by show 0 + 1 * (x 1).val = (x 1).val; omega)
    have hc : r0_5.emb x 2 = (⟨(x 2).val, by have : (x 2).val < 1024 := (x 2).isLt; omega⟩ : Fin 2048) :=
      Fin.ext (by show 0 + 1 * (x 2).val = (x 2).val; omega)
    show k0_pay3 (View.ld x0 r0_0) (View.ld x1 r0_1) (View.ld x1 r0_2) (View.ld x2 r0_3) (View.ld x3 r0_4) x
      = Eat x0 x1 x2 x3 (r0_5.emb x 1) (r0_5.emb x 2)
    rw [hr, hc]
    pointwise [k0_pay3, k0_pay2, Eat, tok]
  nomatch hpc

variable (m : (ℓ : Loc nD τ sig) → Buf (Elt Ideal) ℓ) (ρ : Dev nD → PrngReg)

theorem idx0 : ∀ t : Fin cfg0.N, win0_0.index t = ![t.val, 0, 0] :=
  (by decide +kernel : ∀ t : Fin grid0.N, win0_0.index t = ![t.val, 0, 0])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0, 0] :=
  (by decide +kernel : ∀ t : Fin grid0.N, win0_4.index t = ![t.val, 0, 0])

/-- The weight the region finds: the argument's first 2048 columns, the cast keeping them at the ideal instance. -/
theorem V_w (c : Dev nD) : @Eq (FVec Ideal S1024x2048 .bf16) (V m c main_v1)
    (extractStridedSlice S1024x2048 ![0, 0] (truncf .bf16 (m ((c : Thread nD τ).loc main_arg3) : FVec Ideal S1024x4096 .f32) bitsLt_bf16_f32)
        slices_S1024x4096_S1024x2048_0_0) := by
  unfold V
  after_results

set_option maxHeartbeats 1000000 in
/-- If each grid point flushes the body's block of the blocks it staged, the result array ends as `G` of the arguments. -/
theorem final (c : Dev nD) (D : Dat τ (Elt Ideal) Unit ℕ (UR sig nD τ) ℕ cfg0 c)
    (hD : ∀ t : Fin cfg0.N, D.flushed 4 t = (cfg0.win 4).cut (grid0.coords t) (out0_4 (iblk m c 0 t) (iblk m c 1 t) (iblk m c 2 t) (iblk m c 3 t))) :
    D.arrAt 4 cfg0.N = G (m ((c : Thread nD τ).loc main_arg0)) (m ((c : Thread nD τ).loc main_arg1)) (m ((c : Thread nD τ).loc main_arg2)) (m ((c : Thread nD τ).loc main_arg3)) := by
  refine Dat.arrAt_eq_of_covers D 4 _ (by decide +kernel) fun t hf y => ?_
  blk_simp
  have h := congrFun (hD t) y
  blk_simp at h
  refine h.trans ?_
  show out0_4 (iblk m c 0 t) (iblk m c 1 t) (iblk m c 2 t) (iblk m c 3 t) y = _
  rw [out_apply]
  have hN : t.val < 8 := lt_of_lt_of_eq t.isLt N_0
  have e0 : ∀ (r : Fin 256) (k : Fin 1024), iblk m c 0 t (ix3 0 r k : S1x256x1024.Idx)
      = m ((c : Thread nD τ).loc main_arg0) (ix3 ⟨t.val, hN⟩ r k : S8x256x1024.Idx) := by
    intro r k
    blk_simp [iblk]
    rw [V_main_arg0]
    congr 1
    blk_ext [idx0]
  have e1 : ∀ (k : Fin 3072), iblk m c 1 t (ix3 0 0 k : S1x1x3072.Idx)
      = m ((c : Thread nD τ).loc main_arg1) (ix3 ⟨t.val, hN⟩ 0 k : S8x1x3072.Idx) := by
    intro k
    blk_simp [iblk]
    rw [V_main_arg1]
    congr 1
    blk_ext [idx1]
  have e2 : ∀ (k : Fin 1024), iblk m c 2 t (ix2 0 k : S1x1024.Idx)
      = m ((c : Thread nD τ).loc main_arg2) (ix2 0 k : S1x1024.Idx) := by
    intro k
    blk_simp [iblk]
    rw [V_main_arg2]
    congr 1
    blk_ext [idx2]
  have e3 : ∀ (k : Fin 1024) (j : Fin 2048), iblk m c 3 t (ix2 k j : S1024x2048.Idx)
      = m ((c : Thread nD τ).loc main_arg3) (ix2 k ⟨j.val, by omega⟩ : S1024x4096.Idx) := by
    intro k j
    have hv : (V m c main_v1 : FVec Ideal S1024x2048 .bf16) (ix2 k j)
        = m ((c : Thread nD τ).loc main_arg3) (ix2 k ⟨j.val, by omega⟩ : S1024x4096.Idx) := by
      rw [V_w]
      pointwise
    rw [← hv]
    blk_simp [iblk]
    congr 1
    blk_ext [idx3]
  have ey : ((win0_4.blk t).view.emb y : S8x256x2048.Idx) = ix3 ⟨t.val, hN⟩ (y 1) (y 2) := by
    blk_ext [idx4]
  rw [ey]
  show Eat _ _ _ _ (y 1) (y 2) = Gat _ _ _ _ ⟨t.val, hN⟩ (y 1) (y 2)
  have hr : ∀ (r : Fin 256) (j : Fin 2048),
      Eat (iblk m c 0 t) (iblk m c 1 t) (iblk m c 2 t) (iblk m c 3 t) r j
        = Gat (m ((c : Thread nD τ).loc main_arg0)) (m ((c : Thread nD τ).loc main_arg1)) (m ((c : Thread nD τ).loc main_arg2))
            (m ((c : Thread nD τ).loc main_arg3)) ⟨t.val, hN⟩ r j := by
    intro r j
    unfold Eat Gat
    simp only [e0, e1, e2, e3]
  exact hr _ _

/-- The kernel runs to the end with its result `G` of the arguments and the arguments unchanged. -/
theorem leaves : θ_run defs (onTc (τ := τ) (main (F := Ideal))) ⟨m, fun _ => 0, ρ⟩ fun r => ∀ c : Dev nD,
    r.2.mem ((c : Thread nD τ).loc main_v2) = G (m ((c : Thread nD τ).loc main_arg0)) (m ((c : Thread nD τ).loc main_arg1)) (m ((c : Thread nD τ).loc main_arg2)) (m ((c : Thread nD τ).loc main_arg3))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2))
    ∧ r.2.mem ((c : Thread nD τ).loc main_arg3) = (m ((c : Thread nD τ).loc main_arg3)) := by
  exact (θ_run defs _ _).mono (fun _ h c => ⟨(h c).1.trans (final m c _ (Value.flushed4 m c)), (h c).2⟩) (Value.run_blocks m ρ)

end Kernel

section Reference

open Cert.ReferenceCtxIdeal Cert.ReferenceCtxIdeal.Gen

/-- The reference's term of its arguments. -/
def refTerm (x0 : FVec Ideal S8x256x1024 .f32) (x1 : FVec Ideal S8x1x3072 .f32) (x2 : FVec Ideal S1x1024 .f32)
    (x3 : FVec Ideal S1024x4096 .f32) : FVec Ideal S8x256x2048 .bf16 :=
  truncf .bf16 (extractStridedSlice S8x256x2048 ![0, 0, 0] (Host.dotGeneral dot_S8x256x1024_S1024x4096_S8x256x4096_2_0_01_1_n_n none (addf (mulf (mulf (mulf x0 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x0 x0) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ x2 shapeCasts_S1x1024_S1024)))) (broadcastInDim S8x256x1024 ![0, 1, 2] bcast_S8x1x1024_S8x256x1024_0_1_2 (addf (broadcastInDim S8x1x1024 ![] bcast_S_S8x1x1024 (constant S_ .f32 0x3F800000#32)) (extractStridedSlice S8x1x1024 ![0, 0, 1024] x1 slices_S8x1x3072_S8x1x1024_0_0_1024)))) (broadcastInDim S8x256x1024 ![0, 1, 2] bcast_S8x1x1024_S8x256x1024_0_1_2 (extractStridedSlice S8x1x1024 ![0, 0, 0] x1 slices_S8x1x3072_S8x1x1024_0_0_0))) x3) slices_S8x256x4096_S8x256x2048_0_0_0) bitsLt_bf16_f32

/-- The reference's product is `G` of its arguments. -/
theorem refValue (x0 : FVec Ideal S8x256x1024 .f32) (x1 : FVec Ideal S8x1x3072 .f32) (x2 : FVec Ideal S1x1024 .f32)
    (x3 : FVec Ideal S1024x4096 .f32) : refTerm x0 x1 x2 x3 = G x0 x1 x2 x3 := by
  funext i
  idx_vars i
  pointwise [refTerm, G, Gat, tok]

end Reference

open Cert.ReferenceCtxIdeal in
/-- The reference runs to the end with its arguments unchanged and no semaphore left. -/
theorem quiescent_reference : Cert.quiescent_ReferenceCtxIdeal :=
  fun m ρ _ => (θ_run Cert.ReferenceCtxIdeal.defs _ _).mono (fun r h => ⟨fun c => (h c).2,
    Idealize.ShloMosaic.sem_eq_zero_of_no_sems (by decide) r.2⟩) (Cert.ReferenceCtxIdeal.Value.run (F := Ideal) m ρ)

/-- Kernel and reference leave the same result. -/
theorem algebraic : Cert.algebraic_KernelCtxIdeal_ReferenceCtxIdeal := by
  intro m ρ m' ρ' _ hagree
  refine ⟨_, leaves m ρ, ?_⟩
  · refine (θ_run Cert.ReferenceCtxIdeal.defs _ _).mono (fun _ h c => ⟨(h c).1.trans ?_, (h c).2⟩)
      (Cert.ReferenceCtxIdeal.Value.run (F := Ideal) m' ρ')
    refine (refValue _ _ _ _).trans ?_
    rw [(hagree c).1, (hagree c).2.1, (hagree c).2.2.1, (hagree c).2.2.2]

end Cert.CtxProj

/-! ## The output projection -/

namespace Cert.OutProj

/-- The normalised value: `h` times the reciprocal root of the mean of the squares `sq` plus epsilon, times the gain. -/
def norm (h sq gain : EReal) : EReal :=
  h * Ideal.rsqrt (Ideal.div sq (Ideal.ofBits .f32 0x44800000#32) + Ideal.ofBits .f32 0x358637BD#32) * gain

section Kernel

open Cert.KernelOutIdeal Cert.KernelOutIdeal.Gen

/-- The gated residual of one block at its row `r` and column `j`. -/
def Hblk (x0 x1 : Vec Ideal S1x512x512 .bf16) (x2 : Vec Ideal S1x512x1024 .f32) (x3 : Vec Ideal S1x1x3072 .f32)
    (x4 : Vec Ideal S1024x1024 .bf16) (r : Fin 512) (j : Fin 1024) : EReal :=
  x2 (ix3 0 r j) + x3 (ix3 0 0 ⟨2048 + j.val, by omega⟩)
    * ((∑ k : Fin 512, x0 (ix3 0 r k) * x4 (ix2 ⟨k.val, by omega⟩ j)) + ∑ k : Fin 512, x1 (ix3 0 r k) * x4 (ix2 ⟨512 + k.val, by omega⟩ j))

/-- What one block leaves at its row `r` and column `j`. -/
def Eat (x0 x1 : Vec Ideal S1x512x512 .bf16) (x2 : Vec Ideal S1x512x1024 .f32) (x3 : Vec Ideal S1x1x3072 .f32)
    (x4 : Vec Ideal S1024x1024 .bf16) (x5 : Vec Ideal S1x1024 .f32) (r : Fin 512) (j : Fin 1024) : EReal :=
  norm (Hblk x0 x1 x2 x3 x4 r j) (∑ q : Fin 1024, Hblk x0 x1 x2 x3 x4 r q * Hblk x0 x1 x2 x3 x4 r q) (x5 (ix2 0 j))

/-- The gated residual at token `(b, r)` and column `j`. -/
def H (x0 x1 : Vec Ideal S8x4096x512 .bf16) (x2 : Vec Ideal S8x4096x1024 .f32) (x3 : Vec Ideal S8x1x3072 .f32)
    (x4 : Vec Ideal S1024x1024 .f32) (b : Fin 8) (r : Fin 4096) (j : Fin 1024) : EReal :=
  x2 (ix3 b r j) + x3 (ix3 b 0 ⟨2048 + j.val, by omega⟩)
    * ((∑ k : Fin 512, x0 (ix3 b r k) * x4 (ix2 ⟨k.val, by omega⟩ j)) + ∑ k : Fin 512, x1 (ix3 b r k) * x4 (ix2 ⟨512 + k.val, by omega⟩ j))

/-- The result at token `(b, r)` and column `j`. -/
def Gat (x0 x1 : Vec Ideal S8x4096x512 .bf16) (x2 : Vec Ideal S8x4096x1024 .f32) (x3 : Vec Ideal S8x1x3072 .f32)
    (x4 : Vec Ideal S1024x1024 .f32) (x5 : Vec Ideal S1x1024 .f32) (b : Fin 8) (r : Fin 4096) (j : Fin 1024) : EReal :=
  norm (H x0 x1 x2 x3 x4 b r j) (∑ q : Fin 1024, H x0 x1 x2 x3 x4 b r q * H x0 x1 x2 x3 x4 b r q) (x5 (ix2 0 j))

/-- The whole result. -/
def G (x0 x1 : Vec Ideal S8x4096x512 .bf16) (x2 : Vec Ideal S8x4096x1024 .f32) (x3 : Vec Ideal S8x1x3072 .f32)
    (x4 : Vec Ideal S1024x1024 .f32) (x5 : Vec Ideal S1x1024 .f32) : Vec Ideal S8x4096x1024 .f32 :=
  fun i => Gat x0 x1 x2 x3 x4 x5 (i 0) (i 1) (i 2)

/-- The block the body leaves is the normalised gated residual of the input blocks. -/
theorem out_apply (x0 x1 : Vec Ideal S1x512x512 .bf16) (x2 : Vec Ideal S1x512x1024 .f32) (x3 : Vec Ideal S1x1x3072 .f32)
    (x4 : Vec Ideal S1024x1024 .bf16) (x5 : Vec Ideal S1x1024 .f32) (y : S1x512x1024.Idx) :
    out0_6 x0 x1 x2 x3 x4 x5 y = Eat x0 x1 x2 x3 x4 x5 (y 1) (y 2) := by
  unfold out0_6
  rw [Value.canon6_eq]
  show k0_pay2 (F := Ideal) _ _ _ _ _ _ _ (Value.ix6_0 y) = _
  have hy : Value.ix6_0 y = (ix2 (y 1) (y 2) : S512x1024.Idx) := by
    funext a
    match a with
    | ⟨0, _⟩ => rfl
    | ⟨1, _⟩ => rfl
  rw [hy]
  pointwise [k0_pay2, Eat, Hblk, norm]

variable (m : (ℓ : Loc nD τ sig) → Buf (Elt Ideal) ℓ) (ρ : Dev nD → PrngReg)

theorem idx0 : ∀ t : Fin cfg0.N, win0_0.index t = ![t.val / 8, t.val % 8, 0] :=
  (by decide +kernel : ∀ t : Fin grid0.N, win0_0.index t = ![t.val / 8, t.val % 8, 0])
theorem idx1 : ∀ t : Fin cfg0.N, win0_1.index t = ![t.val / 8, t.val % 8, 0] :=
  (by decide +kernel : ∀ t : Fin grid0.N, win0_1.index t = ![t.val / 8, t.val % 8, 0])
theorem idx2 : ∀ t : Fin cfg0.N, win0_2.index t = ![t.val / 8, t.val % 8, 0] :=
  (by decide +kernel : ∀ t : Fin grid0.N, win0_2.index t = ![t.val / 8, t.val % 8, 0])
theorem idx3 : ∀ t : Fin cfg0.N, win0_3.index t = ![t.val / 8, 0, 0] :=
  (by decide +kernel : ∀ t : Fin grid0.N, win0_3.index t = ![t.val / 8, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val / 8, t.val % 8, 0] :=
  (by decide +kernel : ∀ t : Fin grid0.N, win0_6.index t = ![t.val / 8, t.val % 8, 0])

/-- The weight the region finds is the argument's: at the ideal instance the cast keeps it. -/
theorem V_w (c : Dev nD) : V m c main_v0 = m ((c : Thread nD τ).loc main_arg4) := by
  unfold V
  after_results
  rfl

set_option maxHeartbeats 1000000 in
/-- If each grid point flushes the body's block of the blocks it staged, the result array ends as `G` of the arguments. -/
theorem final (c : Dev nD) (D : Dat τ (Elt Ideal) Unit ℕ (UR sig nD τ) ℕ cfg0 c)
    (hD : ∀ t : Fin cfg0.N, D.flushed 6 t = (cfg0.win 6).cut (grid0.coords t) (out0_6 (iblk m c 0 t) (iblk m c 1 t) (iblk m c 2 t) (iblk m c 3 t) (iblk m c 4 t) (iblk m c 5 t))) :
    D.arrAt 6 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Dat.arrAt_eq_of_covers D 6 _ (by decide +kernel) fun t hf y => ?_
  blk_simp
  have h := congrFun (hD t) y
  blk_simp at h
  refine h.trans ?_
  show out0_6 (iblk m c 0 t) (iblk m c 1 t) (iblk m c 2 t) (iblk m c 3 t) (iblk m c 4 t) (iblk m c 5 t) y = _
  rw [out_apply]
  have hN : t.val < 64 := lt_of_lt_of_eq t.isLt N_0
  have e0 : ∀ (r : Fin 512) (k : Fin 512), iblk m c 0 t (ix3 0 r k : S1x512x512.Idx)
      = m ((c : Thread nD τ).loc main_arg0) (ix3 ⟨t.val / 8, by omega⟩ ⟨t.val % 8 * 512 + r.val, by omega⟩ k : S8x4096x512.Idx) := by
    intro r k
    blk_simp [iblk]
    rw [V_main_arg0]
    congr 1
    blk_ext [idx0]
  have e1 : ∀ (r : Fin 512) (k : Fin 512), iblk m c 1 t (ix3 0 r k : S1x512x512.Idx)
      = m ((c : Thread nD τ).loc main_arg1) (ix3 ⟨t.val / 8, by omega⟩ ⟨t.val % 8 * 512 + r.val, by omega⟩ k : S8x4096x512.Idx) := by
    intro r k
    blk_simp [iblk]
    rw [V_main_arg1]
    congr 1
    blk_ext [idx1]
  have e2 : ∀ (r : Fin 512) (k : Fin 1024), iblk m c 2 t (ix3 0 r k : S1x512x1024.Idx)
      = m ((c : Thread nD τ).loc main_arg2) (ix3 ⟨t.val / 8, by omega⟩ ⟨t.val % 8 * 512 + r.val, by omega⟩ k : S8x4096x1024.Idx) := by
    intro r k
    blk_simp [iblk]
    rw [V_main_arg2]
    congr 1
    blk_ext [idx2]
  have e3 : ∀ (k : Fin 3072), iblk m c 3 t (ix3 0 0 k : S1x1x3072.Idx)
      = m ((c : Thread nD τ).loc main_arg3) (ix3 ⟨t.val / 8, by omega⟩ 0 k : S8x1x3072.Idx) := by
    intro k
    blk_simp [iblk]
    rw [V_main_arg3]
    congr 1
    blk_ext [idx3]
  have e4 : ∀ (k : Fin 1024) (j : Fin 1024), iblk m c 4 t (ix2 k j : S1024x1024.Idx)
      = m ((c : Thread nD τ).loc main_arg4) (ix2 k j : S1024x1024.Idx) := by
    intro k j
    blk_simp [iblk]
    rw [V_w]
    congr 1
    blk_ext [idx4]
  have e5 : ∀ (k : Fin 1024), iblk m c 5 t (ix2 0 k : S1x1024.Idx)
      = m ((c : Thread nD τ).loc main_arg5) (ix2 0 k : S1x1024.Idx) := by
    intro k
    blk_simp [iblk]
    rw [V_main_arg5]
    congr 1
    blk_ext [idx5]
  have ey : ((win0_6.blk t).view.emb y : S8x4096x1024.Idx) = ix3 ⟨t.val / 8, by omega⟩ ⟨t.val % 8 * 512 + (y 1).val, by
      have : (y 1).val < 512 := (y 1).isLt
      omega⟩ (y 2) := by
    blk_ext [idx6]
  rw [ey]
  show Eat _ _ _ _ _ _ (y 1) (y 2) = Gat _ _ _ _ _ _ ⟨t.val / 8, by omega⟩ ⟨t.val % 8 * 512 + (y 1).val, _⟩ (y 2)
  have hr : ∀ (r : Fin 512) (j : Fin 1024) (h : t.val % 8 * 512 + r.val < 4096),
      Eat (iblk m c 0 t) (iblk m c 1 t) (iblk m c 2 t) (iblk m c 3 t) (iblk m c 4 t) (iblk m c 5 t) r j
        = Gat (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            ⟨t.val / 8, by omega⟩ ⟨t.val % 8 * 512 + r.val, h⟩ j := by
    intro r j h
    unfold Eat Gat Hblk H
    simp only [e0, e1, e2, e3, e4, e5]
  exact hr _ _ _

/-- The kernel runs to the end with its result `G` of the arguments and the arguments unchanged. -/
theorem leaves : θ_run defs (onTc (τ := τ) (main (F := Ideal))) ⟨m, fun _ => 0, ρ⟩ fun r => ∀ c : Dev nD,
    r.2.mem ((c : Thread nD τ).loc main_v1) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2))
    ∧ r.2.mem ((c : Thread nD τ).loc main_arg3) = (m ((c : Thread nD τ).loc main_arg3))
    ∧ r.2.mem ((c : Thread nD τ).loc main_arg4) = (m ((c : Thread nD τ).loc main_arg4))
    ∧ r.2.mem ((c : Thread nD τ).loc main_arg5) = (m ((c : Thread nD τ).loc main_arg5)) := by
  exact (θ_run defs _ _).mono (fun _ h c => ⟨(h c).1.trans (final m c _ (Value.flushed6 m c)), (h c).2⟩) (Value.run_blocks m ρ)

end Kernel

section Reference

open Cert.ReferenceOutIdeal Cert.ReferenceOutIdeal.Gen

/-- The reference's term of its arguments. -/
def refTerm (x0 x1 : FVec Ideal S8x4096x512 .bf16) (x2 : FVec Ideal S8x4096x1024 .f32) (x3 : FVec Ideal S8x1x3072 .f32)
    (x4 : FVec Ideal S1024x1024 .f32) (x5 : FVec Ideal S1x1024 .f32) : FVec Ideal S8x4096x1024 .f32 :=
  mulf (mulf (addf x2 (mulf (broadcastInDim S8x4096x1024 ![0, 1, 2] bcast_S8x1x1024_S8x4096x1024_0_1_2 (extractStridedSlice S8x1x1024 ![0, 0, 2048] x3 slices_S8x1x3072_S8x1x1024_0_0_2048)) (Host.dotGeneral dot_S8x4096x1024_S1024x1024_S8x4096x1024_2_0_01_1_n_n none (concatenate S8x4096x1024 2 [⟨S8x4096x512, (extf .f32 x0 bitsLt_bf16_f32)⟩, ⟨S8x4096x512, (extf .f32 x1 bitsLt_bf16_f32)⟩] concatenates_S8x4096x512_S8x4096x512_S8x4096x1024_d2) x4))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (addf x2 (mulf (broadcastInDim S8x4096x1024 ![0, 1, 2] bcast_S8x1x1024_S8x4096x1024_0_1_2 (extractStridedSlice S8x1x1024 ![0, 0, 2048] x3 slices_S8x1x3072_S8x1x1024_0_0_2048)) (Host.dotGeneral dot_S8x4096x1024_S1024x1024_S8x4096x1024_2_0_01_1_n_n none (concatenate S8x4096x1024 2 [⟨S8x4096x512, (extf .f32 x0 bitsLt_bf16_f32)⟩, ⟨S8x4096x512, (extf .f32 x1 bitsLt_bf16_f32)⟩] concatenates_S8x4096x512_S8x4096x512_S8x4096x1024_d2) x4))) (addf x2 (mulf (broadcastInDim S8x4096x1024 ![0, 1, 2] bcast_S8x1x1024_S8x4096x1024_0_1_2 (extractStridedSlice S8x1x1024 ![0, 0, 2048] x3 slices_S8x1x3072_S8x1x1024_0_0_2048)) (Host.dotGeneral dot_S8x4096x1024_S1024x1024_S8x4096x1024_2_0_01_1_n_n none (concatenate S8x4096x1024 2 [⟨S8x4096x512, (extf .f32 x0 bitsLt_bf16_f32)⟩, ⟨S8x4096x512, (extf .f32 x1 bitsLt_bf16_f32)⟩] concatenates_S8x4096x512_S8x4096x512_S8x4096x1024_d2) x4)))) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ x5 shapeCasts_S1x1024_S1024)))

/-- The reference's result is `G` of its arguments. -/
theorem refValue (x0 x1 : FVec Ideal S8x4096x512 .bf16) (x2 : FVec Ideal S8x4096x1024 .f32) (x3 : FVec Ideal S8x1x3072 .f32)
    (x4 : FVec Ideal S1024x1024 .f32) (x5 : FVec Ideal S1x1024 .f32) :
    refTerm x0 x1 x2 x3 x4 x5 = G x0 x1 x2 x3 x4 x5 := by
  funext i
  idx_vars i
  pointwise [refTerm, G, Gat, H, norm]

end Reference

open Cert.ReferenceOutIdeal in
/-- The reference runs to the end with its arguments unchanged and no semaphore left. -/
theorem quiescent_reference : Cert.quiescent_ReferenceOutIdeal :=
  fun m ρ _ => (θ_run Cert.ReferenceOutIdeal.defs _ _).mono (fun r h => ⟨fun c => (h c).2,
    Idealize.ShloMosaic.sem_eq_zero_of_no_sems (by decide) r.2⟩) (Cert.ReferenceOutIdeal.Value.run (F := Ideal) m ρ)

/-- Kernel and reference leave the same result. -/
theorem algebraic : Cert.algebraic_KernelOutIdeal_ReferenceOutIdeal := by
  intro m ρ m' ρ' _ hagree
  refine ⟨_, leaves m ρ, ?_⟩
  · refine (θ_run Cert.ReferenceOutIdeal.defs _ _).mono (fun _ h c => ⟨(h c).1.trans ?_, (h c).2⟩)
      (Cert.ReferenceOutIdeal.Value.run (F := Ideal) m' ρ')
    refine (refValue _ _ _ _ _ _).trans ?_
    rw [(hagree c).1, (hagree c).2.1, (hagree c).2.2.1, (hagree c).2.2.2.1, (hagree c).2.2.2.2.1, (hagree c).2.2.2.2.2]

end Cert.OutProj

/-! ## The claim -/

/-! ## The modulation and the lower bounds -/

namespace Cert.ModProj

section Kernel

open Cert.KernelModIdeal Cert.KernelModIdeal.Gen

/-- A modulation row at a column: the gated condition times the weight, plus the bias. -/
def modAt (x : Fin 1024 → EReal) (w : Fin 1024 → EReal) (b : EReal) : EReal :=
  (∑ k : Fin 1024, x k * Ideal.logistic (x k) * w k) + b

/-- The first entry of the softmax of two logits. -/
def softAt (z : Fin 2 → EReal) : EReal :=
  Ideal.div (Ideal.exp (z 0 - Finset.univ.fold max (Ideal.ofBits FTy.f32 4286578688#32) z))
    (∑ k : Fin 2, Ideal.exp (z k - Finset.univ.fold max (Ideal.ofBits FTy.f32 4286578688#32) z))

/-- The modulation rows of the arguments. -/
def Gm (x : FVec Ideal S16x1024 .f32) (w : FVec Ideal S1024x3072 .f32) (b : FVec Ideal S1x3072 .f32) : FVec Ideal S16x3072 .f32 :=
  fun i => modAt (fun k => x (ix2 (i 0) k)) (fun k => w (ix2 k (i 1))) (b (ix2 0 (i 1)))

/-- The lower bounds of the logits: channel `c` is channel `c % 512` of direction `c / 512`. -/
def Gl (z : FVec Ideal S2x2x512 .f32) : FVec Ideal S8x1024 .f32 :=
  fun i => softAt fun k => z (ix3 k ⟨(i 1).val / 512, by have : (i 1).val < 1024 := (i 1).isLt; omega⟩ ⟨(i 1).val % 512, by omega⟩)

/-- The body's modulation block at an index. -/
theorem out4_apply (x0 : Vec Ideal S16x1024 .f32) (x1 : Vec Ideal S1024x512 .f32) (x2 : Vec Ideal S1x512 .f32)
    (x3 : Vec Ideal S2x1024 .f32) (y : S16x512.Idx) : out0_4 x0 x1 x2 x3 y
      = modAt (fun k => x0 (ix2 (y 0) k)) (fun k => x1 (ix2 k (y 1))) (x2 (ix2 0 (y 1))) := by
  unfold out0_4
  have e : ∀ p : Vec Ideal S16x512 .f32, View.canon [⟨r0_3, p⟩] y = p y := by
    intro p
    refine View.canon_apply_of_pieces p _ ?_ y (View.cover_of_tiled [⟨r0_3, _⟩] S16x512.size (by rfl) y)
    intro pc hpc
    rcases List.mem_cons.mp hpc with rfl | hpc
    · intro x
      refine congrArg p (funext fun a => ?_)
      refine Fin.ext ?_
      match a with
      | ⟨0, _⟩ => show (x 0).val = 0 + 1 * (x 0).val; omega
      | ⟨1, _⟩ => show (x 1).val = 0 + 1 * (x 1).val; omega
    nomatch hpc
  rw [e]
  show k0_pay1 (F := Ideal) _ _ _ y = _
  idx_vars y
  pointwise [k0_pay1, modAt]

/-- The body's lower bounds at an index. -/
theorem out5_apply (x0 : Vec Ideal S16x1024 .f32) (x1 : Vec Ideal S1024x512 .f32) (x2 : Vec Ideal S1x512 .f32)
    (x3 : Vec Ideal S2x1024 .f32) (y : S8x1024.Idx) : out0_5 x0 x1 x2 x3 y = softAt fun k => x3 (ix2 k (y 1)) := by
  unfold out0_5
  have e : ∀ p : Vec Ideal S8x1024 .f32, View.canon [⟨r0_5, p⟩] y = p y := by
    intro p
    refine View.canon_apply_of_pieces p _ ?_ y (View.cover_of_tiled [⟨r0_5, _⟩] S8x1024.size (by rfl) y)
    intro pc hpc
    rcases List.mem_cons.mp hpc with rfl | hpc
    · intro x
      refine congrArg p (funext fun a => ?_)
      refine Fin.ext ?_
      match a with
      | ⟨0, _⟩ => show (x 0).val = 0 + 1 * (x 0).val; omega
      | ⟨1, _⟩ => show (x 1).val = 0 + 1 * (x 1).val; omega
    nomatch hpc
  rw [e]
  show k0_pay2 (F := Ideal) _ y = _
  idx_vars y
  pointwise [k0_pay2, softAt]

variable (m : (ℓ : Loc nD τ sig) → Buf (Elt Ideal) ℓ) (ρ : Dev nD → PrngReg)

theorem idx0 : ∀ t : Fin cfg0.N, win0_0.index t = ![0, 0] :=
  (by decide +kernel : ∀ t : Fin grid0.N, win0_0.index t = ![0, 0])
theorem idx1 : ∀ t : Fin cfg0.N, win0_1.index t = ![0, t.val] :=
  (by decide +kernel : ∀ t : Fin grid0.N, win0_1.index t = ![0, t.val])
theorem idx2 : ∀ t : Fin cfg0.N, win0_2.index t = ![0, t.val] :=
  (by decide +kernel : ∀ t : Fin grid0.N, win0_2.index t = ![0, t.val])
theorem idx3 : ∀ t : Fin cfg0.N, win0_3.index t = ![0, 0] :=
  (by decide +kernel : ∀ t : Fin grid0.N, win0_3.index t = ![0, 0])
theorem idx4 : ∀ t : Fin cfg0.N, win0_4.index t = ![0, t.val] :=
  (by decide +kernel : ∀ t : Fin grid0.N, win0_4.index t = ![0, t.val])
theorem idx5 : ∀ t : Fin cfg0.N, win0_5.index t = ![0, 0] :=
  (by decide +kernel : ∀ t : Fin grid0.N, win0_5.index t = ![0, 0])

/-- The logits the region finds are the argument's, the directions side by side. -/
theorem V_lb (c : Dev nD) : @Eq (FVec Ideal S2x1024 .f32) (V m c main_v0)
    (shapeCast _ (m ((c : Thread nD τ).loc main_arg3) : FVec Ideal S2x2x512 .f32) shapeCasts_S2x2x512_S2x1024) := by
  unfold V
  after_results
  rfl

set_option maxHeartbeats 1000000 in
/-- If each grid point flushes the body's block of the blocks it staged, the first result ends as `Gm` of the arguments. -/
theorem final4 (c : Dev nD) (D : Dat τ (Elt Ideal) Unit ℕ (UR sig nD τ) ℕ cfg0 c)
    (hD : ∀ t : Fin cfg0.N, D.flushed 4 t = (cfg0.win 4).cut (grid0.coords t) (out0_4 (iblk m c 0 t) (iblk m c 1 t) (iblk m c 2 t) (iblk m c 3 t))) :
    D.arrAt 4 cfg0.N = Gm (m ((c : Thread nD τ).loc main_arg0)) (m ((c : Thread nD τ).loc main_arg1)) (m ((c : Thread nD τ).loc main_arg2)) := by
  refine Dat.arrAt_eq_of_covers D 4 _ (by decide +kernel) fun t hf y => ?_
  blk_simp
  have h := congrFun (hD t) y
  blk_simp at h
  refine h.trans ?_
  show out0_4 (iblk m c 0 t) (iblk m c 1 t) (iblk m c 2 t) (iblk m c 3 t) y = _
  rw [out4_apply]
  have hN : t.val < 6 := lt_of_lt_of_eq t.isLt N_0
  have e0 : ∀ (r : Fin 16) (k : Fin 1024), iblk m c 0 t (ix2 r k : S16x1024.Idx)
      = m ((c : Thread nD τ).loc main_arg0) (ix2 r k : S16x1024.Idx) := by
    intro r k
    blk_simp [iblk]
    rw [V_main_arg0]
    congr 1
    blk_ext [idx0]
  have e1 : ∀ (k : Fin 1024) (j : Fin 512), iblk m c 1 t (ix2 k j : S1024x512.Idx)
      = m ((c : Thread nD τ).loc main_arg1) (ix2 k ⟨t.val * 512 + j.val, by omega⟩ : S1024x3072.Idx) := by
    intro k j
    blk_simp [iblk]
    rw [V_main_arg1]
    congr 1
    blk_ext [idx1]
  have e2 : ∀ (j : Fin 512), iblk m c 2 t (ix2 0 j : S1x512.Idx)
      = m ((c : Thread nD τ).loc main_arg2) (ix2 0 ⟨t.val * 512 + j.val, by omega⟩ : S1x3072.Idx) := by
    intro j
    blk_simp [iblk]
    rw [V_main_arg2]
    congr 1
    blk_ext [idx2]
  have ey : ((win0_4.blk t).view.emb y : S16x3072.Idx) = ix2 (y 0) ⟨t.val * 512 + (y 1).val, by
      have : (y 1).val < 512 := (y 1).isLt
      omega⟩ := by
    blk_ext [idx4]
  rw [ey]
  have hr : ∀ (r : Fin 16) (j : Fin 512) (h : t.val * 512 + j.val < 3072),
      modAt (fun k => iblk m c 0 t (ix2 r k : S16x1024.Idx)) (fun k => iblk m c 1 t (ix2 k j : S1024x512.Idx)) (iblk m c 2 t (ix2 0 j : S1x512.Idx))
        = Gm (m ((c : Thread nD τ).loc main_arg0)) (m ((c : Thread nD τ).loc main_arg1)) (m ((c : Thread nD τ).loc main_arg2)) (ix2 r ⟨t.val * 512 + j.val, h⟩) := by
    intro r j h
    simp only [e0, e1, e2]
    rfl
  exact hr _ _ _

set_option maxHeartbeats 1000000 in
/-- If each grid point flushes the body's lower bounds of the blocks it staged, the second result ends as `Gl` of the logits. -/
theorem final5 (c : Dev nD) (D : Dat τ (Elt Ideal) Unit ℕ (UR sig nD τ) ℕ cfg0 c)
    (hD : ∀ t : Fin cfg0.N, D.flushed 5 t = (cfg0.win 5).cut (grid0.coords t) (out0_5 (iblk m c 0 t) (iblk m c 1 t) (iblk m c 2 t) (iblk m c 3 t))) :
    D.arrAt 5 cfg0.N = Gl (m ((c : Thread nD τ).loc main_arg3)) := by
  refine Dat.arrAt_eq_of_covers D 5 _ (by decide +kernel) fun t hf y => ?_
  blk_simp
  have h := congrFun (hD t) y
  blk_simp at h
  refine h.trans ?_
  show out0_5 (iblk m c 0 t) (iblk m c 1 t) (iblk m c 2 t) (iblk m c 3 t) y = _
  rw [out5_apply]
  have e3 : ∀ (k : Fin 2) (j : Fin 1024), iblk m c 3 t (ix2 k j : S2x1024.Idx)
      = m ((c : Thread nD τ).loc main_arg3) (ix3 k ⟨j.val / 512, by omega⟩ ⟨j.val % 512, by omega⟩ : S2x2x512.Idx) := by
    intro k j
    blk_simp [iblk]
    rw [V_lb]
    have e : ((win0_3.blk t).view.emb (ix2 k j : S2x1024.Idx) : S2x1024.Idx) = ix2 k j := by
      blk_ext [idx3]
    refine (congrArg _ e).trans ?_
    pointwise []
  have ey : ((win0_5.blk t).view.emb y : S8x1024.Idx) = ix2 (y 0) (y 1) := by
    blk_ext [idx5]
  rw [ey]
  have hr : ∀ (r : Fin 8) (j : Fin 1024), softAt (fun k => iblk m c 3 t (ix2 k j : S2x1024.Idx)) = Gl (m ((c : Thread nD τ).loc main_arg3)) (ix2 r j) := by
    intro r j
    simp only [e3]
    rfl
  exact hr _ _

/-- The kernel runs to the end with its results `Gm` and `Gl` of the arguments and the arguments unchanged. -/
theorem leaves : θ_run defs (onTc (τ := τ) (main (F := Ideal))) ⟨m, fun _ => 0, ρ⟩ fun r => ∀ c : Dev nD,
    r.2.mem ((c : Thread nD τ).loc main_v1_0) = Gm (m ((c : Thread nD τ).loc main_arg0)) (m ((c : Thread nD τ).loc main_arg1)) (m ((c : Thread nD τ).loc main_arg2))
    ∧ r.2.mem ((c : Thread nD τ).loc main_v1_1) = Gl (m ((c : Thread nD τ).loc main_arg3))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2))
    ∧ r.2.mem ((c : Thread nD τ).loc main_arg3) = (m ((c : Thread nD τ).loc main_arg3)) := by
  exact (θ_run defs _ _).mono (fun _ h c => ⟨(h c).1.trans (final4 m c _ (Value.flushed4 m c)), (h c).2.1.trans (final5 m c _ (Value.flushed5 m c)), (h c).2.2⟩) (Value.run_blocks m ρ)

end Kernel

section Reference

open Cert.ReferenceModIdeal Cert.ReferenceModIdeal.Gen

/-- The reference's modulation term. -/
def refMod (x0 : FVec Ideal S16x1024 .f32) (x1 : FVec Ideal S1024x3072 .f32) (x2 : FVec Ideal S1x3072 .f32) : FVec Ideal S16x3072 .f32 :=
  addf (Host.dotGeneral dot_S16x1024_S1024x3072_S16x3072_1_0_0_1_n_n none (mulf x0 (Host.divf (broadcastInDim S16x1024 ![] bcast_S_S16x1024 (constant S_ .f32 0x3F800000#32)) (addf (broadcastInDim S16x1024 ![] bcast_S_S16x1024 (constant S_ .f32 0x3F800000#32)) (Host.exp (Host.negf x0))))) x1) (broadcastInDim S16x3072 ![0, 1] bcast_S1x3072_S16x3072_0_1 (broadcastInDim S1x3072 ![1] bcast_S3072_S1x3072_1 (shapeCast _ x2 shapeCasts_S1x3072_S3072)))

/-- The reference's softmax over the layers. -/
def refSoft (x3 : FVec Ideal S2x2x512 .f32) : FVec Ideal S2x2x512 .f32 :=
  let d := Host.exp (subf x3 (broadcastInDim S2x2x512 ![0, 1, 2] bcast_S1x2x512_S2x2x512_0_1_2 (broadcastInDim S1x2x512 ![1, 2] bcast_S2x512_S1x2x512_1_2 (maximumf (broadcastInDim S2x512 ![] bcast_S_S2x512 (constant S_ .f32 0xFF800000#32)) (Host.reduce FloatOps.maximumf x3 (constant S_ .f32 0xFF800000#32) reducesTo_S2x2x512_S2x512_d0 h_S_)))))
  Host.divf d (broadcastInDim S2x2x512 ![0, 1, 2] bcast_S1x2x512_S2x2x512_0_1_2 (broadcastInDim S1x2x512 ![1, 2] bcast_S2x512_S1x2x512_1_2 (Host.reduceAdd d (constant S_ .f32 0x00000000#32) reducesTo_S2x2x512_S2x512_d0 h_S_)))

/-- The reference's lower bounds. -/
def refLb (x3 : FVec Ideal S2x2x512 .f32) : FVec Ideal S8x1024 .f32 :=
  broadcastInDim S8x1024 ![0, 1] bcast_S1x1024_S8x1024_0_1 (shapeCast _ (shapeCast _ (extractStridedSlice S1x2x512 ![0, 0, 0] (Host.reduceWindowAdd ![2, 1, 1] ![1, 1, 1] ![1, 0, 0] ![0, 0, 0] (refSoft x3) (broadcastInDim S_ ![] bcast_S_S_ (constant S_ .f32 0x00000000#32)) reduceWindows_S2x2x512_S2x2x512_w2s1p1_0_w1s1p0_0_w1s1p0_0 h_S_) slices_S2x2x512_S1x2x512_0_0_0) shapeCasts_S1x2x512_S2x512) shapeCasts_S2x512_S1x1024)

theorem refMod_apply (x0 : FVec Ideal S16x1024 .f32) (x1 : FVec Ideal S1024x3072 .f32) (x2 : FVec Ideal S1x3072 .f32) (i : S16x3072.Idx) :
    refMod x0 x1 x2 i = modAt (fun k => x0 (ix2 (i 0) k)) (fun k => x1 (ix2 k (i 1))) (x2 (ix2 0 (i 1))) := by
  idx_vars i
  pointwise [refMod, modAt]
  rfl

theorem refSoft_apply (x3 : FVec Ideal S2x2x512 .f32) (d : Fin 2) (j : Fin 512) :
    refSoft x3 (ix3 0 d j) = softAt fun k => x3 (ix3 k d j) := by
  have hm : ∀ z : Fin 2 → EReal, ∀ b : EReal, max b (Finset.univ.fold max b z) = Finset.univ.fold max b z :=
    fun z b => max_eq_right (Finset.le_fold_max b |>.mpr (Or.inl le_rfl))
  pointwise [refSoft, softAt]
  simp only [hm]

/-- The running sum over the layers, at the first layer, is the first layer. -/
theorem window_first (x : FVec Ideal S2x2x512 .f32) (init : FVec Ideal S_ .f32) (hi : ∀ u, init u = (0 : EReal)) (d : Fin 2) (j : Fin 512) :
    Host.reduceWindowAdd ![2, 1, 1] ![1, 1, 1] ![1, 0, 0] ![0, 0, 0] x init reduceWindows_S2x2x512_S2x2x512_w2s1p1_0_w1s1p0_0_w1s1p0_0 h_S_ (ix3 0 d j)
      = x (ix3 0 d j) := by
  have hw0 : ((⟨3, ![2, 1, 1]⟩ : Shape).rowMajor.symm (0 : Fin 2) 0).val = 0 := by decide +kernel
  have hw1 : ((⟨3, ![2, 1, 1]⟩ : Shape).rowMajor.symm (1 : Fin 2) 0).val = 1 := by decide +kernel
  have hw2 : ((⟨3, ![2, 1, 1]⟩ : Shape).rowMajor.symm (1 : Fin 2) 1).val = 0 := by decide +kernel
  have hw3 : ((⟨3, ![2, 1, 1]⟩ : Shape).rowMajor.symm (1 : Fin 2) 2).val = 0 := by decide +kernel
  have hd : d.val < 2 := d.isLt
  have hj : j.val < 512 := j.isLt
  have hl : List.finRange (⟨3, ![2, 1, 1]⟩ : Shape).numel = [(0 : Fin 2), (1 : Fin 2)] := rfl
  show Host.reduceWindow (· + ·) ![2, 1, 1] ![1, 1, 1] ![1, 0, 0] ![0, 0, 0] x (fun _ : S_.Idx => init (Shape.Idx.first h_S_))
    reduceWindows_S2x2x512_S2x2x512_w2s1p1_0_w1s1p0_0_w1s1p0_0 h_S_ (ix3 0 d j) = _
  unfold Host.reduceWindow
  dsimp only
  rw [hi]
  refine (congrArg (List.foldl _ _) hl).trans ?_
  show (0 + _ : EReal) + _ = _
  rw [dif_neg, dif_pos]
  · rw [zero_add, zero_add]
    refine congrArg x (funext fun a => Fin.ext ?_)
    match a with
    | ⟨0, _⟩ => show 0 * 1 + ((⟨3, ![2, 1, 1]⟩ : Shape).rowMajor.symm (1 : Fin 2) 0).val - 1 = 0; omega
    | ⟨1, _⟩ => show d.val * 1 + ((⟨3, ![2, 1, 1]⟩ : Shape).rowMajor.symm (1 : Fin 2) 1).val - 0 = d.val; omega
    | ⟨2, _⟩ => show j.val * 1 + ((⟨3, ![2, 1, 1]⟩ : Shape).rowMajor.symm (1 : Fin 2) 2).val - 0 = j.val; omega
  · intro a
    match a with
    | ⟨0, _⟩ =>
      show 1 ≤ 0 * 1 + ((⟨3, ![2, 1, 1]⟩ : Shape).rowMajor.symm (1 : Fin 2) 0).val ∧ 0 * 1 + ((⟨3, ![2, 1, 1]⟩ : Shape).rowMajor.symm (1 : Fin 2) 0).val - 1 < 2
      omega
    | ⟨1, _⟩ =>
      show 0 ≤ d.val * 1 + ((⟨3, ![2, 1, 1]⟩ : Shape).rowMajor.symm (1 : Fin 2) 1).val ∧ d.val * 1 + ((⟨3, ![2, 1, 1]⟩ : Shape).rowMajor.symm (1 : Fin 2) 1).val - 0 < 2
      omega
    | ⟨2, _⟩ =>
      show 0 ≤ j.val * 1 + ((⟨3, ![2, 1, 1]⟩ : Shape).rowMajor.symm (1 : Fin 2) 2).val ∧ j.val * 1 + ((⟨3, ![2, 1, 1]⟩ : Shape).rowMajor.symm (1 : Fin 2) 2).val - 0 < 512
      omega
  · intro h
    have h0 := h 0
    change 1 ≤ 0 * 1 + ((⟨3, ![2, 1, 1]⟩ : Shape).rowMajor.symm (0 : Fin 2) 0).val ∧ _ at h0
    omega

theorem refLb_apply (x3 : FVec Ideal S2x2x512 .f32) (i : S8x1024.Idx) :
    refLb x3 i = refSoft x3 (ix3 0 ⟨(i 1).val / 512, by have : (i 1).val < 1024 := (i 1).isLt; omega⟩ ⟨(i 1).val % 512, by omega⟩) := by
  idx_vars i
  pointwise [refLb]
  exact window_first _ _ (fun u => by pointwise []) _ _

/-- The reference's first result is `Gm` of its arguments. -/
theorem refValue (x0 : FVec Ideal S16x1024 .f32) (x1 : FVec Ideal S1024x3072 .f32) (x2 : FVec Ideal S1x3072 .f32) : refMod x0 x1 x2 = Gm x0 x1 x2 :=
  funext fun i => refMod_apply x0 x1 x2 i

/-- The reference's second result is `Gl` of its logits. -/
theorem refValueLb (x3 : FVec Ideal S2x2x512 .f32) : refLb x3 = Gl x3 :=
  funext fun i => (refLb_apply x3 i).trans (refSoft_apply x3 _ _)

end Reference

open Cert.ReferenceModIdeal in
/-- The reference runs to the end with its arguments unchanged and no semaphore left. -/
theorem quiescent_reference : Cert.quiescent_ReferenceModIdeal :=
  fun m ρ _ => (θ_run Cert.ReferenceModIdeal.defs _ _).mono (fun r h => ⟨fun c => (h c).2.2,
    Idealize.ShloMosaic.sem_eq_zero_of_no_sems (by decide) r.2⟩) (Cert.ReferenceModIdeal.Value.run (F := Ideal) m ρ)

/-- Kernel and reference leave the same results. -/
theorem algebraic : Cert.algebraic_KernelModIdeal_ReferenceModIdeal := by
  intro m ρ m' ρ' _ hagree
  refine ⟨_, _, leaves m ρ, ?_⟩
  · refine (θ_run Cert.ReferenceModIdeal.defs _ _).mono (fun _ h c => ⟨(h c).1.trans ?_, (h c).2.1.trans ?_, (h c).2.2⟩)
      (Cert.ReferenceModIdeal.Value.run (F := Ideal) m' ρ')
    · refine (refValue _ _ _).trans ?_
      rw [(hagree c).1, (hagree c).2.1, (hagree c).2.2.1]
    · refine (refValueLb _).trans ?_
      rw [(hagree c).2.2.2]

end Cert.ModProj

/-! ## The convolution branch -/

namespace Cert.ConvBranch

section

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Fill

open Cert.KernelConvIdeal Cert.KernelConvIdeal.Gen

/-- An entry of a block by its row and its channel, zero off the block. -/
def rd (x : Vec Ideal S1x4096x512 .bf16) (p ch : ℕ) : EReal :=
  if h : p < 4096 ∧ ch < 512 then x (ix3 0 ⟨p, h.1⟩ ⟨ch, h.2⟩) else 0

/-- The gated unit at a row and a channel. -/
def glu (x0 x1 : Vec Ideal S1x4096x512 .bf16) (p ch : ℕ) : EReal := rd x0 p ch * Ideal.logistic (rd x1 p ch)

/-- The gated units of the image's row `r`, the row's columns between margins of zeros: column `p` is the image's
column `p - 16`; -/
def rowAt (x0 x1 : Vec Ideal S1x4096x512 .bf16) (r p ch : ℕ) : EReal :=
  if 16 ≤ p ∧ p < 80 then glu x0 x1 (64 * r + (p - 16)) ch else 0

/-- and of its column `w`, row `p` the image's row `p - 15`, in the second half of the channels. -/
def colAt (x0 x1 : Vec Ideal S1x4096x512 .bf16) (p w ch : ℕ) : EReal :=
  if 15 ≤ p ∧ p < 79 then glu x0 x1 (64 * (p - 15) + w) (256 + ch) else 0

/-- The first half of the gated units, each row of the image between two margins of zeros. -/
def rowBuf (x0 x1 : Vec Ideal S1x4096x512 .bf16) : Vec Ideal S64x96x256 .f32 :=
  fun y => rowAt x0 x1 (y 0).val (y 1).val (y 2).val

/-- The second half of the gated units, the image's rows between two margins of zeros. -/
def colBuf (x0 x1 : Vec Ideal S1x4096x512 .bf16) : Vec Ideal S94x64x256 .f32 :=
  fun y => colAt x0 x1 (y 0).val (y 1).val (y 2).val

/-- Where the filling loop reads row `k` of the image, -/
theorem off1_eq : ∀ k : Fin k0_t1_loop.trips, k0_off1 k = ![0, 64 * k.val, 0] := by decide +kernel
/-- where it stores the row's first half of the channels, -/
theorem off2_eq : ∀ k : Fin k0_t1_loop.trips, k0_off2 k = ![k.val, 16, 0] := by decide +kernel
/-- and where it stores the second half. -/
theorem off3_eq : ∀ k : Fin k0_t1_loop.trips, k0_off3 k = ![15 + k.val, 0, 0] := by decide +kernel
/-- The filling loop runs once per row of the image, -/
theorem trips1 : k0_t1_loop.trips = 64 := by decide +kernel

variable (x0 x1 : Vec Ideal S1x4096x512 .bf16)

/-- A trip's first half: the gated units of the image's row `k`. -/
theorem pay6_apply (v w : Vec Ideal S1x64x512 .bf16) (x : S1x64x256.Idx) :
    k0_pay6 (F := Ideal) v w x = v (ix3 0 (x 1) ⟨(x 2).val, by have : (x 2).val < 256 := (x 2).isLt; omega⟩)
      * Ideal.logistic (w (ix3 0 (x 1) ⟨(x 2).val, by have : (x 2).val < 256 := (x 2).isLt; omega⟩)) := by
  idx_vars x
  pointwise [k0_pay6, k0_pay5]

/-- A trip's second half. -/
theorem pay7_apply (v w : Vec Ideal S1x64x512 .bf16) (x : S1x64x256.Idx) :
    k0_pay7 (F := Ideal) v w x = v (ix3 0 (x 1) ⟨256 + (x 2).val, by have : (x 2).val < 256 := (x 2).isLt; omega⟩)
      * Ideal.logistic (w (ix3 0 (x 1) ⟨256 + (x 2).val, by have : (x 2).val < 256 := (x 2).isLt; omega⟩)) := by
  idx_vars x
  pointwise [k0_pay7, k0_pay5]

/-- The image's row `k` of a block, read by row and channel. -/
theorem load_row {m : Memref sig .tc .vmem S1x4096x512 .bf16} (h : m.IsWhole) (X : Vec Ideal S1x4096x512 .bf16) (k : Fin k0_t1_loop.trips)
    (w : Fin 64) (ch : ℕ) (hc : ch < 512) :
    View.readAt (Elt Ideal) m.view (Rect.unit (s := S1x4096x512) (k0_off1 k) S1x64x512.size (k0_off1_inb k)).toLoadRect (h.unread X)
      (ix3 0 w ⟨ch, hc⟩ : S1x64x512.Idx) = rd X (64 * k.val + w.val) ch := by
  refine (congrFun (h.read_unread X) _).trans ?_
  have hk : k.val < 64 := lt_of_lt_of_eq k.isLt trips1
  unfold rd
  rw [dif_pos ⟨by omega, hc⟩]
  refine congrArg X (funext fun a => Fin.ext ?_)
  have e : ∀ a, k0_off1 k a = (![0, 64 * k.val, 0] : Fin 3 → ℕ) a := fun a => congrFun (off1_eq k) a
  match a with
  | ⟨0, _⟩ => show k0_off1 k 0 + 1 * 0 = 0; rw [e]; rfl
  | ⟨1, _⟩ => show k0_off1 k 1 + 1 * w.val = 64 * k.val + w.val; rw [e]; show 64 * k.val + 1 * w.val = _; omega
  | ⟨2, _⟩ => show k0_off1 k 2 + 1 * ch = ch; rw [e]; show 0 + 1 * ch = _; omega

/-- Trip `k`'s piece of the row buffer agrees with `rowBuf`; -/
theorem piece_row {m1 m2 : Memref sig .tc .vmem S1x4096x512 .bf16} (h1 : m1.IsWhole) (h2 : m2.IsWhole) (k : Fin k0_t1_loop.trips) (x : S1x64x256.Idx) :
    k0_pay6 (F := Ideal) (View.readAt (Elt Ideal) m1.view (Rect.unit (s := S1x4096x512) (k0_off1 k) S1x64x512.size (k0_off1_inb k)).toLoadRect (h1.unread x0))
      (View.readAt (Elt Ideal) m2.view (Rect.unit (s := S1x4096x512) (k0_off1 k) S1x64x512.size (k0_off1_inb k)).toLoadRect (h2.unread x1)) x
      = rowBuf x0 x1 ((Rect.unit (s := S64x96x256) (k0_off2 k) S1x64x256.size (k0_off2_inb k)).emb x) := by
  refine (pay6_apply _ _ _).trans ?_
  refine (congrArg₂ (fun a b => a * Ideal.logistic b) (load_row h1 x0 k _ _ _) (load_row h2 x1 k _ _ _)).trans ?_
  have hx0 : (x 0).val < 1 := (x 0).isLt
  have hx1 : (x 1).val < 64 := (x 1).isLt
  have e : ∀ a, k0_off2 k a = (![k.val, 16, 0] : Fin 3 → ℕ) a := fun a => congrFun (off2_eq k) a
  have e0 : (((Rect.unit (s := S64x96x256) (k0_off2 k) S1x64x256.size (k0_off2_inb k)).emb x) 0).val = k.val := by
    show k0_off2 k 0 + 1 * (x 0).val = _; rw [e]; show k.val + 1 * (x 0).val = _; omega
  have e1 : (((Rect.unit (s := S64x96x256) (k0_off2 k) S1x64x256.size (k0_off2_inb k)).emb x) 1).val = 16 + (x 1).val := by
    show k0_off2 k 1 + 1 * (x 1).val = _; rw [e]; show 16 + 1 * (x 1).val = _; omega
  have e2 : (((Rect.unit (s := S64x96x256) (k0_off2 k) S1x64x256.size (k0_off2_inb k)).emb x) 2).val = (x 2).val := by
    show k0_off2 k 2 + 1 * (x 2).val = _; rw [e]; show 0 + 1 * (x 2).val = _; omega
  unfold rowBuf rowAt
  rw [e0, e1, e2, if_pos ⟨by omega, by omega⟩, Nat.add_sub_cancel_left]
  rfl

/-- and its piece of the column buffer with `colBuf`. -/
theorem piece_col {m1 m2 : Memref sig .tc .vmem S1x4096x512 .bf16} (h1 : m1.IsWhole) (h2 : m2.IsWhole) (k : Fin k0_t1_loop.trips) (x : S1x64x256.Idx) :
    k0_pay7 (F := Ideal) (View.readAt (Elt Ideal) m1.view (Rect.unit (s := S1x4096x512) (k0_off1 k) S1x64x512.size (k0_off1_inb k)).toLoadRect (h1.unread x0))
      (View.readAt (Elt Ideal) m2.view (Rect.unit (s := S1x4096x512) (k0_off1 k) S1x64x512.size (k0_off1_inb k)).toLoadRect (h2.unread x1)) x
      = colBuf x0 x1 ((Rect.unit (s := S94x64x256) (k0_off3 k) S1x64x256.size (k0_off3_inb k)).emb x) := by
  refine (pay7_apply _ _ _).trans ?_
  refine (congrArg₂ (fun a b => a * Ideal.logistic b) (load_row h1 x0 k _ _ _) (load_row h2 x1 k _ _ _)).trans ?_
  have hk : k.val < 64 := lt_of_lt_of_eq k.isLt trips1
  have hx0 : (x 0).val < 1 := (x 0).isLt
  have hx1 : (x 1).val < 64 := (x 1).isLt
  have e : ∀ a, k0_off3 k a = (![15 + k.val, 0, 0] : Fin 3 → ℕ) a := fun a => congrFun (off3_eq k) a
  have e0 : (((Rect.unit (s := S94x64x256) (k0_off3 k) S1x64x256.size (k0_off3_inb k)).emb x) 0).val = 15 + k.val := by
    show k0_off3 k 0 + 1 * (x 0).val = _; rw [e]; show 15 + k.val + 1 * (x 0).val = _; omega
  have e1 : (((Rect.unit (s := S94x64x256) (k0_off3 k) S1x64x256.size (k0_off3_inb k)).emb x) 1).val = (x 1).val := by
    show k0_off3 k 1 + 1 * (x 1).val = _; rw [e]; show 0 + 1 * (x 1).val = _; omega
  have e2 : (((Rect.unit (s := S94x64x256) (k0_off3 k) S1x64x256.size (k0_off3_inb k)).emb x) 2).val = (x 2).val := by
    show k0_off3 k 2 + 1 * (x 2).val = _; rw [e]; show 0 + 1 * (x 2).val = _; omega
  unfold colBuf colAt
  rw [e0, e1, e2, if_pos ⟨by omega, by omega⟩, Nat.add_sub_cancel_left]
  rfl

variable (c : Dev nD) (i : grid0.Coords) (arg1 : Memref sig .tc .vmem S1x4096x512 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S64x96x256 .f32) (harg9 : arg9.IsWhole) (arg10 : Memref sig .tc .vmem S94x64x256 .f32) (harg10 : arg10.IsWhole)

/-- What trip `k` of the fill writes. -/
theorem fill_trip (k : Fin k0_t1_loop.trips) :
    tripL_k0_t1 Variants.none c none i arg1 harg1 arg2 harg2 arg3 harg3 arg4 harg4 arg5 harg5 arg6 harg6 arg7 harg7 arg8 harg8 arg9 harg9 arg10 harg10 (harg1.unread x0) (harg2.unread x1) k
      = ([⟨Rect.unit (s := S64x96x256) (k0_off2 k) S1x64x256.size (k0_off2_inb k), k0_pay6 (F := Ideal) (View.readAt (Elt Ideal) arg1.view (Rect.unit (s := S1x4096x512) (k0_off1 k) S1x64x512.size (k0_off1_inb k)).toLoadRect (harg1.unread x0))
      (View.readAt (Elt Ideal) arg2.view (Rect.unit (s := S1x4096x512) (k0_off1 k) S1x64x512.size (k0_off1_inb k)).toLoadRect (harg2.unread x1))⟩],
        [⟨Rect.unit (s := S94x64x256) (k0_off3 k) S1x64x256.size (k0_off3_inb k), k0_pay7 (F := Ideal) (View.readAt (Elt Ideal) arg1.view (Rect.unit (s := S1x4096x512) (k0_off1 k) S1x64x512.size (k0_off1_inb k)).toLoadRect (harg1.unread x0))
      (View.readAt (Elt Ideal) arg2.view (Rect.unit (s := S1x4096x512) (k0_off1 k) S1x64x512.size (k0_off1_inb k)).toLoadRect (harg2.unread x1))⟩]) := by
  delta tripL_k0_t1 trip_k0_t1
  rfl

/-- After `n` trips every piece agrees with the two buffers, and the pieces hold rows below `n`. -/
theorem fill_pieces : ∀ n, n ≤ 64 →
    (∀ p ∈ (pb_k0_t1 Variants.none c none i arg1 harg1 arg2 harg2 arg3 harg3 arg4 harg4 arg5 harg5 arg6 harg6 arg7 harg7 arg8 harg8 arg9 harg9 arg10 harg10 (harg1.unread x0) (harg2.unread x1) n).1, ∀ x, p.2 x = rowBuf x0 x1 (p.1.emb x))
    ∧ (∀ p ∈ (pb_k0_t1 Variants.none c none i arg1 harg1 arg2 harg2 arg3 harg3 arg4 harg4 arg5 harg5 arg6 harg6 arg7 harg7 arg8 harg8 arg9 harg9 arg10 harg10 (harg1.unread x0) (harg2.unread x1) n).2, ∀ x, p.2 x = colBuf x0 x1 (p.1.emb x))
    ∧ (∀ y : S64x96x256.Idx, (y 0).val < n → 16 ≤ (y 1).val → (y 1).val < 80 → ∃ p ∈ (pb_k0_t1 Variants.none c none i arg1 harg1 arg2 harg2 arg3 harg3 arg4 harg4 arg5 harg5 arg6 harg6 arg7 harg7 arg8 harg8 arg9 harg9 arg10 harg10 (harg1.unread x0) (harg2.unread x1) n).1, y ∈ p.1.set)
    ∧ (∀ y : S94x64x256.Idx, (y 0).val < 15 + n → 15 ≤ (y 0).val → ∃ p ∈ (pb_k0_t1 Variants.none c none i arg1 harg1 arg2 harg2 arg3 harg3 arg4 harg4 arg5 harg5 arg6 harg6 arg7 harg7 arg8 harg8 arg9 harg9 arg10 harg10 (harg1.unread x0) (harg2.unread x1) n).2, y ∈ p.1.set)
  | 0, _ => by
    refine ⟨fun p hp => ?_, fun p hp => ?_, fun y h => by omega, fun y h h' => by omega⟩
    · cases hp
    · cases hp
  | n + 1, hn => by
    obtain ⟨hr, hc, mr, mc⟩ := fill_pieces n (by omega)
    have hk : n < k0_t1_loop.trips := lt_of_lt_of_eq (by omega) trips1.symm
    have es := pb_k0_t1_succ (F := Ideal) Variants.none c none i arg1 harg1 arg2 harg2 arg3 harg3 arg4 harg4 arg5 harg5 arg6 harg6 arg7 harg7 arg8 harg8 arg9 harg9 arg10 harg10 (harg1.unread x0) (harg2.unread x1) ⟨n, hk⟩
    rw [fill_trip] at es
    rw [es]
    refine ⟨?_, ?_, ?_, ?_⟩
    · intro p hp
      rcases List.mem_cons.mp hp with rfl | hp
      · exact piece_row x0 x1 harg1 harg2 ⟨n, hk⟩
      · exact hr p hp
    · intro p hp
      rcases List.mem_cons.mp hp with rfl | hp
      · exact piece_col x0 x1 harg1 harg2 ⟨n, hk⟩
      · exact hc p hp
    · intro y h h1 h2
      by_cases hy : (y 0).val < n
      · obtain ⟨p, hp, hm⟩ := mr y hy h1 h2
        exact ⟨p, List.mem_cons_of_mem _ hp, hm⟩
      · refine ⟨_, List.mem_cons_self, ?_⟩
        have hy2 : (y 2).val < 256 := (y 2).isLt
        have e : ∀ a, k0_off2 ⟨n, hk⟩ a = (![n, 16, 0] : Fin 3 → ℕ) a := fun a => congrFun (off2_eq ⟨n, hk⟩) a
        show y ∈ (Rect.unit (s := S64x96x256) (k0_off2 ⟨n, hk⟩) S1x64x256.size (k0_off2_inb ⟨n, hk⟩)).set
        refine Rect.mem_set_unit.mpr fun a => ?_
        rw [e]
        match a with
        | ⟨0, _⟩ => show n ≤ (y 0).val ∧ (y 0).val < n + 1; omega
        | ⟨1, _⟩ => show 16 ≤ (y 1).val ∧ (y 1).val < 16 + 64; omega
        | ⟨2, _⟩ => show 0 ≤ (y 2).val ∧ (y 2).val < 0 + 256; omega
    · intro y h h1
      by_cases hy : (y 0).val < 15 + n
      · obtain ⟨p, hp, hm⟩ := mc y hy h1
        exact ⟨p, List.mem_cons_of_mem _ hp, hm⟩
      · refine ⟨_, List.mem_cons_self, ?_⟩
        have hy1 : (y 1).val < 64 := (y 1).isLt
        have hy2 : (y 2).val < 256 := (y 2).isLt
        have e : ∀ a, k0_off3 ⟨n, hk⟩ a = (![15 + n, 0, 0] : Fin 3 → ℕ) a := fun a => congrFun (off3_eq ⟨n, hk⟩) a
        show y ∈ (Rect.unit (s := S94x64x256) (k0_off3 ⟨n, hk⟩) S1x64x256.size (k0_off3_inb ⟨n, hk⟩)).set
        refine Rect.mem_set_unit.mpr fun a => ?_
        rw [e]
        match a with
        | ⟨0, _⟩ => show 15 + n ≤ (y 0).val ∧ (y 0).val < 15 + n + 1; omega
        | ⟨1, _⟩ => show 0 ≤ (y 1).val ∧ (y 1).val < 0 + 64; omega
        | ⟨2, _⟩ => show 0 ≤ (y 2).val ∧ (y 2).val < 0 + 256; omega

/-- After the fill the row buffer reads `rowBuf`, whatever it held; -/
theorem filled_row (fs : BufTy.Contents (Elt Ideal) arg9.view.ty) :
    arg9.view.read (Elt Ideal) (arg9.view.writes (Elt Ideal) fs ((pb_k0_t1 Variants.none c none i arg1 harg1 arg2 harg2 arg3 harg3 arg4 harg4 arg5 harg5 arg6 harg6 arg7 harg7 arg8 harg8 arg9 harg9 arg10 harg10 (harg1.unread x0) (harg2.unread x1) (Scf.trips k0_t1_loop.lb k0_t1_loop.ub k0_t1_loop.st)).1 ++
      [⟨Rect.unit ![0, 80, 0] S64x16x256.size inb_S64x96x256_S64x16x256_0_80_0, k0_pay2 (F := Ideal)⟩, ⟨Rect.unit ![0, 0, 0] S64x16x256.size inb_S64x96x256_S64x16x256_0_0_0, k0_pay1 (F := Ideal)⟩])) = rowBuf x0 x1 := by
  obtain ⟨hr, -, mr, -⟩ := fill_pieces x0 x1 c i arg1 harg1 arg2 harg2 arg3 harg3 arg4 harg4 arg5 harg5 arg6 harg6 arg7 harg7 arg8 harg8 arg9 harg9 arg10 harg10 64 le_rfl
  have hcov : ∀ y : S64x96x256.Idx, ∃ p ∈ ((pb_k0_t1 Variants.none c none i arg1 harg1 arg2 harg2 arg3 harg3 arg4 harg4 arg5 harg5 arg6 harg6 arg7 harg7 arg8 harg8 arg9 harg9 arg10 harg10 (harg1.unread x0) (harg2.unread x1) 64).1 ++
      [(⟨Rect.unit ![0, 80, 0] S64x16x256.size inb_S64x96x256_S64x16x256_0_80_0, k0_pay2 (F := Ideal)⟩ : View.Piece (Elt Ideal) S64x96x256 .f32), ⟨Rect.unit ![0, 0, 0] S64x16x256.size inb_S64x96x256_S64x16x256_0_0_0, k0_pay1 (F := Ideal)⟩]), y ∈ p.1.set := by
    intro y
    have hy0 : (y 0).val < 64 := (y 0).isLt
    have hy1 : (y 1).val < 96 := (y 1).isLt
    have hy2 : (y 2).val < 256 := (y 2).isLt
    by_cases h1 : 16 ≤ (y 1).val
    · by_cases h2 : (y 1).val < 80
      · obtain ⟨p, hp, hm⟩ := mr y hy0 h1 h2
        exact ⟨p, List.mem_append_left _ hp, hm⟩
      · refine ⟨_, List.mem_append_right _ List.mem_cons_self, ?_⟩
        show y ∈ (Rect.unit (s := S64x96x256) ![0, 80, 0] S64x16x256.size inb_S64x96x256_S64x16x256_0_80_0).set
        refine Rect.mem_set_unit.mpr fun a => ?_
        match a with
        | ⟨0, _⟩ => show 0 ≤ (y 0).val ∧ (y 0).val < 0 + 64; omega
        | ⟨1, _⟩ => show 80 ≤ (y 1).val ∧ (y 1).val < 80 + 16; omega
        | ⟨2, _⟩ => show 0 ≤ (y 2).val ∧ (y 2).val < 0 + 256; omega
    · refine ⟨_, List.mem_append_right _ (List.mem_cons_of_mem _ List.mem_cons_self), ?_⟩
      show y ∈ (Rect.unit (s := S64x96x256) ![0, 0, 0] S64x16x256.size inb_S64x96x256_S64x16x256_0_0_0).set
      refine Rect.mem_set_unit.mpr fun a => ?_
      match a with
      | ⟨0, _⟩ => show 0 ≤ (y 0).val ∧ (y 0).val < 0 + 64; omega
      | ⟨1, _⟩ => show 0 ≤ (y 1).val ∧ (y 1).val < 0 + 16; omega
      | ⟨2, _⟩ => show 0 ≤ (y 2).val ∧ (y 2).val < 0 + 256; omega
  have e64 : Scf.trips k0_t1_loop.lb k0_t1_loop.ub k0_t1_loop.st = 64 := trips1
  rw [e64]
  refine (View.read_writes_eq_canon _ _ _ hcov).trans (funext fun y => ?_)
  refine View.canon_apply_of_pieces (rowBuf x0 x1) _ ?_ y (hcov y)
  intro p hp
  rcases List.mem_append.mp hp with hp | hp
  · exact hr p hp
  rcases List.mem_cons.mp hp with rfl | hp
  · intro x
    refine (show k0_pay2 (F := Ideal) x = 0 from by idx_vars x; pointwise [k0_pay2]).trans ?_
    exact (if_neg (fun h => absurd (show 80 + 1 * (x 1).val < 80 from h.2) (by omega))).symm
  rcases List.mem_cons.mp hp with rfl | hp
  · intro x
    refine (show k0_pay1 (F := Ideal) x = 0 from by idx_vars x; pointwise [k0_pay1]).trans ?_
    have hx1 : (x 1).val < 16 := (x 1).isLt
    exact (if_neg (fun h => absurd (show 16 ≤ 0 + 1 * (x 1).val from h.1) (by omega))).symm
  nomatch hp

/-- and the column buffer `colBuf`. -/
theorem filled_col (fs : BufTy.Contents (Elt Ideal) arg10.view.ty) :
    arg10.view.read (Elt Ideal) (arg10.view.writes (Elt Ideal) fs ((pb_k0_t1 Variants.none c none i arg1 harg1 arg2 harg2 arg3 harg3 arg4 harg4 arg5 harg5 arg6 harg6 arg7 harg7 arg8 harg8 arg9 harg9 arg10 harg10 (harg1.unread x0) (harg2.unread x1) (Scf.trips k0_t1_loop.lb k0_t1_loop.ub k0_t1_loop.st)).2 ++
      [⟨Rect.unit ![79, 0, 0] S15x64x256.size inb_S94x64x256_S15x64x256_79_0_0, k0_pay4 (F := Ideal)⟩, ⟨Rect.unit ![0, 0, 0] S15x64x256.size inb_S94x64x256_S15x64x256_0_0_0, k0_pay3 (F := Ideal)⟩])) = colBuf x0 x1 := by
  obtain ⟨-, hr, -, mr⟩ := fill_pieces x0 x1 c i arg1 harg1 arg2 harg2 arg3 harg3 arg4 harg4 arg5 harg5 arg6 harg6 arg7 harg7 arg8 harg8 arg9 harg9 arg10 harg10 64 le_rfl
  have hcov : ∀ y : S94x64x256.Idx, ∃ p ∈ ((pb_k0_t1 Variants.none c none i arg1 harg1 arg2 harg2 arg3 harg3 arg4 harg4 arg5 harg5 arg6 harg6 arg7 harg7 arg8 harg8 arg9 harg9 arg10 harg10 (harg1.unread x0) (harg2.unread x1) 64).2 ++
      [(⟨Rect.unit ![79, 0, 0] S15x64x256.size inb_S94x64x256_S15x64x256_79_0_0, k0_pay4 (F := Ideal)⟩ : View.Piece (Elt Ideal) S94x64x256 .f32), ⟨Rect.unit ![0, 0, 0] S15x64x256.size inb_S94x64x256_S15x64x256_0_0_0, k0_pay3 (F := Ideal)⟩]), y ∈ p.1.set := by
    intro y
    have hy0 : (y 0).val < 94 := (y 0).isLt
    have hy1 : (y 1).val < 64 := (y 1).isLt
    have hy2 : (y 2).val < 256 := (y 2).isLt
    by_cases h1 : 15 ≤ (y 0).val
    · by_cases h2 : (y 0).val < 15 + 64
      · obtain ⟨p, hp, hm⟩ := mr y h2 h1
        exact ⟨p, List.mem_append_left _ hp, hm⟩
      · refine ⟨_, List.mem_append_right _ List.mem_cons_self, ?_⟩
        show y ∈ (Rect.unit (s := S94x64x256) ![79, 0, 0] S15x64x256.size inb_S94x64x256_S15x64x256_79_0_0).set
        refine Rect.mem_set_unit.mpr fun a => ?_
        match a with
        | ⟨0, _⟩ => show 79 ≤ (y 0).val ∧ (y 0).val < 79 + 15; omega
        | ⟨1, _⟩ => show 0 ≤ (y 1).val ∧ (y 1).val < 0 + 64; omega
        | ⟨2, _⟩ => show 0 ≤ (y 2).val ∧ (y 2).val < 0 + 256; omega
    · refine ⟨_, List.mem_append_right _ (List.mem_cons_of_mem _ List.mem_cons_self), ?_⟩
      show y ∈ (Rect.unit (s := S94x64x256) ![0, 0, 0] S15x64x256.size inb_S94x64x256_S15x64x256_0_0_0).set
      refine Rect.mem_set_unit.mpr fun a => ?_
      match a with
      | ⟨0, _⟩ => show 0 ≤ (y 0).val ∧ (y 0).val < 0 + 15; omega
      | ⟨1, _⟩ => show 0 ≤ (y 1).val ∧ (y 1).val < 0 + 64; omega
      | ⟨2, _⟩ => show 0 ≤ (y 2).val ∧ (y 2).val < 0 + 256; omega
  have e64 : Scf.trips k0_t1_loop.lb k0_t1_loop.ub k0_t1_loop.st = 64 := trips1
  rw [e64]
  refine (View.read_writes_eq_canon _ _ _ hcov).trans (funext fun y => ?_)
  refine View.canon_apply_of_pieces (colBuf x0 x1) _ ?_ y (hcov y)
  intro p hp
  rcases List.mem_append.mp hp with hp | hp
  · exact hr p hp
  rcases List.mem_cons.mp hp with rfl | hp
  · intro x
    refine (show k0_pay4 (F := Ideal) x = 0 from by idx_vars x; pointwise [k0_pay4]).trans ?_
    exact (if_neg (fun h => absurd (show 79 + 1 * (x 0).val < 79 from h.2) (by omega))).symm
  rcases List.mem_cons.mp hp with rfl | hp
  · intro x
    refine (show k0_pay3 (F := Ideal) x = 0 from by idx_vars x; pointwise [k0_pay3]).trans ?_
    have hx0 : (x 0).val < 15 := (x 0).isLt
    exact (if_neg (fun h => absurd (show 15 ≤ 0 + 1 * (x 0).val from h.1) (by omega))).symm
  nomatch hp

end Fill

section Rows

open Cert.KernelConvIdeal Cert.KernelConvIdeal.Gen

/-- A tap's weight of a channel, zero off the weights. -/
def wt (x3 : Vec Ideal S31x512 .f32) (j ch : ℕ) : EReal :=
  if h : j < 31 ∧ ch < 512 then x3 (ix2 ⟨j, h.1⟩ ⟨ch, h.2⟩) else 0

/-- and so does the second loop. -/
theorem trips2 : k0_t2_loop.trips = 64 := by decide +kernel
/-- Where the second loop reads and stores row `k` of the image, -/
theorem off36_eq : ∀ k : Fin k0_t2_loop.trips, k0_off36 k = ![0, 64 * k.val, 0] := by decide +kernel
/-- and where it reads the rows a column's taps need. -/
theorem off5_all : ∀ (k : Fin k0_t2_loop.trips) (r : Fin 31), k0_off5 k (BitVec.ofNat 32 r.val) = ![k.val + r.val, 0, 0] := by decide +kernel
/-- The same, at a tap given as a number. -/
theorem off5_eq (k : Fin k0_t2_loop.trips) (n : ℕ) (h : n < 31) : k0_off5 k (BitVec.ofNat 32 n) = ![k.val + n, 0, 0] := off5_all k ⟨n, h⟩
set_option maxRecDepth 65536 in
/-- The taps along the row start at columns 1 to 31. -/
theorem offs_row : ∀ k : Fin k0_t2_loop.trips, k0_off4 k = ![k.val, 1, 0] ∧ k0_off6 k = ![k.val, 2, 0] ∧ k0_off7 k = ![k.val, 3, 0] ∧ k0_off8 k = ![k.val, 4, 0] ∧ k0_off9 k = ![k.val, 5, 0] ∧ k0_off10 k = ![k.val, 6, 0] ∧ k0_off11 k = ![k.val, 7, 0] ∧ k0_off12 k = ![k.val, 8, 0] ∧ k0_off13 k = ![k.val, 9, 0] ∧ k0_off14 k = ![k.val, 10, 0] ∧ k0_off15 k = ![k.val, 11, 0] ∧ k0_off16 k = ![k.val, 12, 0] ∧ k0_off17 k = ![k.val, 13, 0] ∧ k0_off18 k = ![k.val, 14, 0] ∧ k0_off19 k = ![k.val, 15, 0] ∧ k0_off20 k = ![k.val, 16, 0] ∧ k0_off21 k = ![k.val, 17, 0] ∧ k0_off22 k = ![k.val, 18, 0] ∧ k0_off23 k = ![k.val, 19, 0] ∧ k0_off24 k = ![k.val, 20, 0] ∧ k0_off25 k = ![k.val, 21, 0] ∧ k0_off26 k = ![k.val, 22, 0] ∧ k0_off27 k = ![k.val, 23, 0] ∧ k0_off28 k = ![k.val, 24, 0] ∧ k0_off29 k = ![k.val, 25, 0] ∧ k0_off30 k = ![k.val, 26, 0] ∧ k0_off31 k = ![k.val, 27, 0] ∧ k0_off32 k = ![k.val, 28, 0] ∧ k0_off33 k = ![k.val, 29, 0] ∧ k0_off34 k = ![k.val, 30, 0] ∧ k0_off35 k = ![k.val, 31, 0] := by decide +kernel

variable (x0 x1 : Vec Ideal S1x4096x512 .bf16) (x3 : Vec Ideal S31x512 .f32)

/-- A load of the row buffer, by row, column and channel; -/
theorem load9 {m : Memref sig .tc .vmem S64x96x256 .f32} {f : BufTy.Contents (Elt Ideal) m.view.ty} (hf : m.view.read (Elt Ideal) f = rowBuf x0 x1)
    (off : Fin 3 → ℕ) (inb : ∀ a : Fin 3, off a + (![1, 64, 256] : Fin 3 → ℕ) a ≤ S64x96x256.size a) (w : Fin 64) (ch : Fin 256) :
    View.readAt (Elt Ideal) m.view (Rect.unit (s := S64x96x256) off ![1, 64, 256] inb).toLoadRect f (ix3 0 w ch)
      = rowAt x0 x1 (off 0) (off 1 + w.val) (off 2 + ch.val) := by
  refine (congrFun hf _).trans ?_
  show rowAt x0 x1 (off 0 + 1 * 0) (off 1 + 1 * w.val) (off 2 + 1 * ch.val) = _
  rw [Nat.mul_zero, Nat.one_mul, Nat.one_mul, Nat.add_zero]

/-- of the column buffer; -/
theorem load10 {m : Memref sig .tc .vmem S94x64x256 .f32} {f : BufTy.Contents (Elt Ideal) m.view.ty} (hf : m.view.read (Elt Ideal) f = colBuf x0 x1)
    (off : Fin 3 → ℕ) (inb : ∀ a : Fin 3, off a + (![1, 64, 256] : Fin 3 → ℕ) a ≤ S94x64x256.size a) (w : Fin 64) (ch : Fin 256) :
    View.readAt (Elt Ideal) m.view (Rect.unit (s := S94x64x256) off ![1, 64, 256] inb).toLoadRect f (ix3 0 w ch)
      = colAt x0 x1 (off 0) (off 1 + w.val) (off 2 + ch.val) := by
  refine (congrFun hf _).trans ?_
  show colAt x0 x1 (off 0 + 1 * 0) (off 1 + 1 * w.val) (off 2 + 1 * ch.val) = _
  rw [Nat.mul_zero, Nat.one_mul, Nat.one_mul, Nat.add_zero]

/-- and of a tap's weights. -/
theorem load4 {m : Memref sig .tc .vmem S31x512 .f32} (h : m.IsWhole) (j : ℕ)
    (inb : ∀ a : Fin 2, (![j, 0] : Fin 2 → ℕ) a + (![1, 512] : Fin 2 → ℕ) a ≤ S31x512.size a) (ch : Fin 512) :
    View.readAt (Elt Ideal) m.view (Rect.unit (s := S31x512) ![j, 0] ![1, 512] inb).toLoadRect (h.unread x3) (ix2 0 ch)
      = wt x3 j ch.val := by
  refine (congrFun (h.read_unread x3) _).trans ?_
  have hj : j + 1 ≤ 31 := inb 0
  unfold wt
  rw [dif_pos ⟨by omega, ch.isLt⟩]
  refine congrArg x3 (funext fun a => Fin.ext ?_)
  match a with
  | ⟨0, _⟩ => show j + 1 * 0 = j; omega
  | ⟨1, _⟩ => show 0 + 1 * ch.val = ch.val; omega

variable (arg4 : Memref sig .tc .vmem S31x512 .f32) (harg4 : arg4.IsWhole) (arg9 : Memref sig .tc .vmem S64x96x256 .f32) (arg10 : Memref sig .tc .vmem S94x64x256 .f32)
  (X9 : BufTy.Contents (Elt Ideal) arg9.view.ty) (X10 : BufTy.Contents (Elt Ideal) arg10.view.ty)

/-- The taps along a row, summed. -/
theorem row_taps (h9 : arg9.view.read (Elt Ideal) X9 = rowBuf x0 x1) (k : Fin k0_t2_loop.trips) (w : Fin 64) (ch : Fin 256) :
    trip_k0_t2.sl.r_38 (F := Ideal) arg4 arg9 (harg4.unread x3) X9 k (ix2 w ch)
      = ∑ j ∈ Finset.range 31, rowAt x0 x1 k.val (j + 1 + w.val) ch.val * wt x3 j ch.val := by
  pointwise [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39]
  simp only [load9 x0 x1 h9, load4, offs_row k, Finset.sum_range_succ, Finset.sum_range_zero]
  simp

/-- The taps along a column, summed. -/
theorem col_taps (h10 : arg10.view.read (Elt Ideal) X10 = colBuf x0 x1) (k : Fin k0_t2_loop.trips) (w : Fin 64) (ch : Fin 256) :
    trip_k0_t2.sl.r_37 (F := Ideal) arg4 arg10 (harg4.unread x3) X10 k (ix2 w ch) + trip_k0_t2.sl.r_39 (F := Ideal) arg4 arg10 (harg4.unread x3) X10 k (ix2 w ch)
      = ∑ j ∈ Finset.range 31, colAt x0 x1 (k.val + j) w.val ch.val * wt x3 j (256 + ch.val) := by
  pointwise [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39]
  simp only [load10 x0 x1 h10, load4, Finset.sum_range_succ, Finset.sum_range_zero]
  simp [off5_eq]

/-- A number times its logistic. -/
def siluAt (z : EReal) : EReal := z * Ideal.logistic z

/-- A layer norm over 512 entries, given as two halves, at an entry `y` with its scale and its shift. -/
def lnAt (a b : Fin 256 → EReal) (y g s : EReal) : EReal :=
  (y - Ideal.div (∑ x, a x + ∑ x, b x) (Ideal.ofBits FTy.f32 1140850688#32))
    * Ideal.rsqrt (Ideal.div
        (∑ x, (a x - Ideal.div (∑ x, a x + ∑ x, b x) (Ideal.ofBits FTy.f32 1140850688#32)) * (a x - Ideal.div (∑ x, a x + ∑ x, b x) (Ideal.ofBits FTy.f32 1140850688#32))
          + ∑ x, (b x - Ideal.div (∑ x, a x + ∑ x, b x) (Ideal.ofBits FTy.f32 1140850688#32)) * (b x - Ideal.div (∑ x, a x + ∑ x, b x) (Ideal.ofBits FTy.f32 1140850688#32)))
        (Ideal.ofBits FTy.f32 1140850688#32) + Ideal.ofBits FTy.f32 897988541#32) * g + s

/-- The taps along a row, summed at the image's row `r` and column `w`. -/
def rowSum (x0 x1 : Vec Ideal S1x4096x512 .bf16) (x3 : Vec Ideal S31x512 .f32) (r w ch : ℕ) : EReal :=
  ∑ j ∈ Finset.range 31, rowAt x0 x1 r (j + 1 + w) ch * wt x3 j ch

/-- The taps along a column, summed there. -/
def colSum (x0 x1 : Vec Ideal S1x4096x512 .bf16) (x3 : Vec Ideal S31x512 .f32) (r w ch : ℕ) : EReal :=
  ∑ j ∈ Finset.range 31, colAt x0 x1 (r + j) w ch * wt x3 j (256 + ch)

/-- The normalised convolution there. -/
def normAt (x0 x1 : Vec Ideal S1x4096x512 .bf16) (x3 : Vec Ideal S31x512 .f32) (x4 x5 x6 : Vec Ideal S1x512 .f32) (r w : ℕ) (ch : Fin 512) : EReal :=
  lnAt (fun x => rowSum x0 x1 x3 r w x.val + x4 (ix2 0 ⟨x.val, by omega⟩)) (fun x => colSum x0 x1 x3 r w x.val + x4 (ix2 0 ⟨256 + x.val, by omega⟩))
    ((if ch.val < 256 then rowSum x0 x1 x3 r w ch.val else colSum x0 x1 x3 r w (ch.val - 256)) + x4 (ix2 0 ch)) (x5 (ix2 0 ch)) (x6 (ix2 0 ch))

/-- The branch's block as the body leaves it, from the blocks it is given. -/
def outBlk (x0 x1 x2 : Vec Ideal S1x4096x512 .bf16) (x3 : Vec Ideal S31x512 .f32) (x4 x5 x6 : Vec Ideal S1x512 .f32) : Vec Ideal S1x4096x512 .bf16 :=
  fun y => siluAt (normAt x0 x1 x3 x4 x5 x6 ((y 1).val / 64) ((y 1).val % 64) (y 2)) * siluAt (rd x2 (y 1).val (y 2).val)

/-- The kernel's layer norm and its gate. -/
theorem pay40_apply (v501 v509 v516 : FVec Ideal S64x256 .f32) (cb lg lb : Vec Ideal S1x512 .f32) (w : Fin 64) (ch : Fin 512) :
    k0_pay40 (F := Ideal) v501 v509 v516 cb lg lb (ix2 w ch)
      = siluAt (lnAt (fun x => v509 (ix2 w x) + cb (ix2 0 ⟨x.val, by omega⟩)) (fun x => (v501 (ix2 w x) + v516 (ix2 w x)) + cb (ix2 0 ⟨256 + x.val, by omega⟩))
          ((if h : ch.val < 256 then v509 (ix2 w ⟨ch.val, h⟩) else v501 (ix2 w ⟨ch.val - 256, by omega⟩) + v516 (ix2 w ⟨ch.val - 256, by omega⟩)) + cb (ix2 0 ch))
          (lg (ix2 0 ch)) (lb (ix2 0 ch))) := by
  pointwise [k0_pay40, siluAt, lnAt]

/-- A load of one row vector, whole. -/
theorem load_vec {m : Memref sig .tc .vmem S1x512 .f32} (h : m.IsWhole) (X : Vec Ideal S1x512 .f32) :
    View.readAt (Elt Ideal) m.view (Rect.unit (s := S1x512) ![0, 0] ![1, 512] inb_S1x512_S1x512_0_0).toLoadRect (h.unread X) = X := by
  refine funext fun y => (congrFun (h.read_unread X) _).trans (congrArg X (funext fun a => Fin.ext ?_))
  match a with
  | ⟨0, _⟩ => show 0 + 1 * (y 0).val = (y 0).val; omega
  | ⟨1, _⟩ => show 0 + 1 * (y 1).val = (y 1).val; omega

/-- A load of the image's row `k` of the gate's block. -/
theorem load_gate {m : Memref sig .tc .vmem S1x4096x512 .bf16} (h : m.IsWhole) (X : Vec Ideal S1x4096x512 .bf16) (k : Fin k0_t2_loop.trips)
    (inb : ∀ a : Fin 3, k0_off36 k a + (![1, 64, 512] : Fin 3 → ℕ) a ≤ S1x4096x512.size a) (w : Fin 64) (ch : Fin 512) :
    View.readAt (Elt Ideal) m.view (Rect.unit (s := S1x4096x512) (k0_off36 k) ![1, 64, 512] inb).toLoadRect (h.unread X) (ix3 0 w ch)
      = rd X (64 * k.val + w.val) ch.val := by
  refine (congrFun (h.read_unread X) _).trans ?_
  have hk : k.val < 64 := lt_of_lt_of_eq k.isLt trips2
  unfold rd
  rw [dif_pos ⟨by omega, ch.isLt⟩]
  refine congrArg X (funext fun a => Fin.ext ?_)
  have e : ∀ a, k0_off36 k a = (![0, 64 * k.val, 0] : Fin 3 → ℕ) a := fun a => congrFun (off36_eq k) a
  match a with
  | ⟨0, _⟩ => show k0_off36 k 0 + 1 * 0 = 0; rw [e]; rfl
  | ⟨1, _⟩ => show k0_off36 k 1 + 1 * w.val = 64 * k.val + w.val; rw [e]; show 64 * k.val + 1 * w.val = _; omega
  | ⟨2, _⟩ => show k0_off36 k 2 + 1 * ch.val = ch.val; rw [e]; show 0 + 1 * ch.val = _; omega

variable (x2 : Vec Ideal S1x4096x512 .bf16) (x4 x5 x6 : Vec Ideal S1x512 .f32)
  (arg3 : Memref sig .tc .vmem S1x4096x512 .bf16) (harg3 : arg3.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole)

/-- What trip `k` stores, at a column and a channel. -/
theorem trip_apply (h9 : arg9.view.read (Elt Ideal) X9 = rowBuf x0 x1) (h10 : arg10.view.read (Elt Ideal) X10 = colBuf x0 x1) (k : Fin k0_t2_loop.trips) (w : Fin 64) (ch : Fin 512) :
    k0_pay8 (F := Ideal) (trip_k0_t2.sl.r_40 arg4 arg5 arg6 arg7 arg9 arg10 (harg4.unread x3) (harg5.unread x4) (harg6.unread x5) (harg7.unread x6) X9 X10 k)
        (trip_k0_t2.sl.r_41 arg3 (harg3.unread x2) k) (ix3 0 w ch)
      = siluAt (normAt x0 x1 x3 x4 x5 x6 k.val w.val ch) * siluAt (rd x2 (64 * k.val + w.val) ch.val) := by
  have e1 : ∀ a b : FVec Ideal S64x512 .f32, k0_pay8 (F := Ideal) a b (ix3 0 w ch) = a (ix2 w ch) * b (ix2 w ch) := by
    intro a b
    pointwise [k0_pay8]
  rw [e1]
  refine congrArg₂ (· * ·) ?_ ?_
  · delta trip_k0_t2.sl.r_40
    dsimp only
    rw [pay40_apply]
    have e5 := load_vec harg5 x4
    have e6 := load_vec harg6 x5
    have e7 := load_vec harg7 x6
    erw [e5, e6, e7]
    simp only [row_taps x0 x1 x3 arg4 harg4 arg9 X9 h9, col_taps x0 x1 x3 arg4 harg4 arg10 X10 h10, dite_eq_ite]
    rfl
  · pointwise [trip_k0_t2.sl.r_41, k0_pay41, siluAt]
    rw [load_gate harg3 x2]

variable (c : Dev nD) (i : grid0.Coords) (arg1 : Memref sig .tc .vmem S1x4096x512 .bf16) (harg1 : arg1.IsWhole) (arg2 : Memref sig .tc .vmem S1x4096x512 .bf16) (harg2 : arg2.IsWhole) (arg8 : Memref sig .tc .vmem S1x4096x512 .bf16) (harg8 : arg8.IsWhole) (harg9 : arg9.IsWhole) (harg10 : arg10.IsWhole)

/-- What trip `k` of the convolution writes. -/
theorem row_trip (k : Fin k0_t2_loop.trips) :
    tripL_k0_t2 Variants.none c none i arg1 harg1 arg2 harg2 arg3 harg3 arg4 harg4 arg5 harg5 arg6 harg6 arg7 harg7 arg8 harg8 arg9 harg9 arg10 harg10 (harg3.unread x2) (harg4.unread x3) (harg5.unread x4) (harg6.unread x5) (harg7.unread x6) X9 X10 k
      = [⟨Rect.unit (s := S1x4096x512) (k0_off36 k) S1x64x512.size (k0_off36_inb k), k0_pay8 (F := Ideal) (trip_k0_t2.sl.r_40 arg4 arg5 arg6 arg7 arg9 arg10 (harg4.unread x3) (harg5.unread x4) (harg6.unread x5) (harg7.unread x6) X9 X10 k)
        (trip_k0_t2.sl.r_41 arg3 (harg3.unread x2) k)⟩] := by
  delta tripL_k0_t2 trip_k0_t2
  rfl

/-- Trip `k`'s piece agrees with `outBlk`. -/
theorem piece_out (h9 : arg9.view.read (Elt Ideal) X9 = rowBuf x0 x1) (h10 : arg10.view.read (Elt Ideal) X10 = colBuf x0 x1) (k : Fin k0_t2_loop.trips) (x : S1x64x512.Idx) :
    k0_pay8 (F := Ideal) (trip_k0_t2.sl.r_40 arg4 arg5 arg6 arg7 arg9 arg10 (harg4.unread x3) (harg5.unread x4) (harg6.unread x5) (harg7.unread x6) X9 X10 k)
        (trip_k0_t2.sl.r_41 arg3 (harg3.unread x2) k) x
      = outBlk x0 x1 x2 x3 x4 x5 x6 ((Rect.unit (s := S1x4096x512) (k0_off36 k) S1x64x512.size (k0_off36_inb k)).emb x) := by
  have hx : x = ix3 0 (x 1) (x 2) := by
    refine funext fun a => Fin.ext ?_
    match a with
    | ⟨0, _⟩ => show (x 0).val = 0; have : (x 0).val < 1 := (x 0).isLt; omega
    | ⟨1, _⟩ => rfl
    | ⟨2, _⟩ => rfl
  have hk : k.val < 64 := lt_of_lt_of_eq k.isLt trips2
  have hx1 : (x 1).val < 64 := (x 1).isLt
  have hx0 : (x 0).val < 1 := (x 0).isLt
  have e : ∀ a, k0_off36 k a = (![0, 64 * k.val, 0] : Fin 3 → ℕ) a := fun a => congrFun (off36_eq k) a
  have he : ((Rect.unit (s := S1x4096x512) (k0_off36 k) S1x64x512.size (k0_off36_inb k)).emb x : S1x4096x512.Idx)
      = ix3 0 ⟨64 * k.val + (x 1).val, by omega⟩ (x 2) := by
    refine funext fun a => Fin.ext ?_
    match a with
    | ⟨0, _⟩ => show k0_off36 k 0 + 1 * (x 0).val = 0; rw [e]; show 0 + 1 * (x 0).val = 0; omega
    | ⟨1, _⟩ => show k0_off36 k 1 + 1 * (x 1).val = 64 * k.val + (x 1).val; rw [e]; show 64 * k.val + 1 * (x 1).val = _; omega
    | ⟨2, _⟩ => show k0_off36 k 2 + 1 * (x 2).val = (x 2).val; rw [e]; show 0 + 1 * (x 2).val = _; omega
  rw [he]
  refine (congrArg _ hx).trans ((trip_apply x0 x1 x3 arg4 harg4 arg9 arg10 X9 X10 x2 x4 x5 x6 arg3 harg3 arg5 harg5 arg6 harg6 arg7 harg7 h9 h10 k (x 1) (x 2)).trans ?_)
  show _ = siluAt (normAt x0 x1 x3 x4 x5 x6 ((64 * k.val + (x 1).val) / 64) ((64 * k.val + (x 1).val) % 64) (x 2)) * siluAt (rd x2 (64 * k.val + (x 1).val) (x 2).val)
  rw [show (64 * k.val + (x 1).val) / 64 = k.val by omega, show (64 * k.val + (x 1).val) % 64 = (x 1).val by omega]

/-- After `n` trips every piece agrees with `outBlk`, and the pieces hold the image's rows below `n`. -/
theorem out_pieces (h9 : arg9.view.read (Elt Ideal) X9 = rowBuf x0 x1) (h10 : arg10.view.read (Elt Ideal) X10 = colBuf x0 x1) : ∀ n, n ≤ 64 →
    (∀ p ∈ pb_k0_t2 Variants.none c none i arg1 harg1 arg2 harg2 arg3 harg3 arg4 harg4 arg5 harg5 arg6 harg6 arg7 harg7 arg8 harg8 arg9 harg9 arg10 harg10 (harg3.unread x2) (harg4.unread x3) (harg5.unread x4) (harg6.unread x5) (harg7.unread x6) X9 X10 n, ∀ x, p.2 x = outBlk x0 x1 x2 x3 x4 x5 x6 (p.1.emb x))
    ∧ (∀ y : S1x4096x512.Idx, (y 1).val < 64 * n → ∃ p ∈ pb_k0_t2 Variants.none c none i arg1 harg1 arg2 harg2 arg3 harg3 arg4 harg4 arg5 harg5 arg6 harg6 arg7 harg7 arg8 harg8 arg9 harg9 arg10 harg10 (harg3.unread x2) (harg4.unread x3) (harg5.unread x4) (harg6.unread x5) (harg7.unread x6) X9 X10 n, y ∈ p.1.set)
  | 0, _ => by
    refine ⟨fun p hp => ?_, fun y h => by omega⟩
    cases hp
  | n + 1, hn => by
    obtain ⟨hr, mr⟩ := out_pieces h9 h10 n (by omega)
    have hk : n < k0_t2_loop.trips := lt_of_lt_of_eq (by omega) trips2.symm
    have es := pb_k0_t2_succ (F := Ideal) Variants.none c none i arg1 harg1 arg2 harg2 arg3 harg3 arg4 harg4 arg5 harg5 arg6 harg6 arg7 harg7 arg8 harg8 arg9 harg9 arg10 harg10 (harg3.unread x2) (harg4.unread x3) (harg5.unread x4) (harg6.unread x5) (harg7.unread x6) X9 X10 ⟨n, hk⟩
    rw [row_trip] at es
    rw [es]
    refine ⟨?_, ?_⟩
    · intro p hp
      rcases List.mem_cons.mp hp with rfl | hp
      · exact piece_out x0 x1 x3 arg4 harg4 arg9 arg10 X9 X10 x2 x4 x5 x6 arg3 harg3 arg5 harg5 arg6 harg6 arg7 harg7 h9 h10 ⟨n, hk⟩
      · exact hr p hp
    · intro y h
      by_cases hy : (y 1).val < 64 * n
      · obtain ⟨p, hp, hm⟩ := mr y hy
        exact ⟨p, List.mem_cons_of_mem _ hp, hm⟩
      · refine ⟨_, List.mem_cons_self, ?_⟩
        have hy0 : (y 0).val < 1 := (y 0).isLt
        have hy2 : (y 2).val < 512 := (y 2).isLt
        have e : ∀ a, k0_off36 ⟨n, hk⟩ a = (![0, 64 * n, 0] : Fin 3 → ℕ) a := fun a => congrFun (off36_eq ⟨n, hk⟩) a
        show y ∈ (Rect.unit (s := S1x4096x512) (k0_off36 ⟨n, hk⟩) S1x64x512.size (k0_off36_inb ⟨n, hk⟩)).set
        refine Rect.mem_set_unit.mpr fun a => ?_
        rw [e]
        match a with
        | ⟨0, _⟩ => show 0 ≤ (y 0).val ∧ (y 0).val < 0 + 1; omega
        | ⟨1, _⟩ => show 64 * n ≤ (y 1).val ∧ (y 1).val < 64 * n + 64; omega
        | ⟨2, _⟩ => show 0 ≤ (y 2).val ∧ (y 2).val < 0 + 512; omega

/-- After the trips the output reads `outBlk`, whatever it held. -/
theorem filled_out (h9 : arg9.view.read (Elt Ideal) X9 = rowBuf x0 x1) (h10 : arg10.view.read (Elt Ideal) X10 = colBuf x0 x1) (f : BufTy.Contents (Elt Ideal) arg8.view.ty) :
    arg8.view.read (Elt Ideal) (arg8.view.writes (Elt Ideal) f (pb_k0_t2 Variants.none c none i arg1 harg1 arg2 harg2 arg3 harg3 arg4 harg4 arg5 harg5 arg6 harg6 arg7 harg7 arg8 harg8 arg9 harg9 arg10 harg10 (harg3.unread x2) (harg4.unread x3) (harg5.unread x4) (harg6.unread x5) (harg7.unread x6) X9 X10 (Scf.trips k0_t2_loop.lb k0_t2_loop.ub k0_t2_loop.st)))
      = outBlk x0 x1 x2 x3 x4 x5 x6 := by
  obtain ⟨hr, mr⟩ := out_pieces x0 x1 x3 arg4 harg4 arg9 arg10 X9 X10 x2 x4 x5 x6 arg3 harg3 arg5 harg5 arg6 harg6 arg7 harg7 c i arg1 harg1 arg2 harg2 arg8 harg8 harg9 harg10 h9 h10 64 le_rfl
  have e64 : Scf.trips k0_t2_loop.lb k0_t2_loop.ub k0_t2_loop.st = 64 := trips2
  rw [e64]
  have hc := fun y : S1x4096x512.Idx => mr y (show (y 1).val < 64 * 64 from (y 1).isLt)
  exact (View.read_writes_eq_canon _ _ _ hc).trans (funext fun y => View.canon_apply_of_pieces _ _ hr y (hc y))

end Rows

section Body

open Cert.KernelConvIdeal Cert.KernelConvIdeal.Gen

set_option maxHeartbeats 4000000 in
/-- The body on whole memrefs: the inputs kept, the output left at `outBlk` of them. -/
theorem body_triple (c : Dev nD) (i : grid0.Coords) (arg1 : Memref sig .tc .vmem S1x4096x512 .bf16) (harg1 : arg1.IsWhole) (arg2 : Memref sig .tc .vmem S1x4096x512 .bf16) (harg2 : arg2.IsWhole) (arg3 : Memref sig .tc .vmem S1x4096x512 .bf16) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S64x96x256 .f32) (harg9 : arg9.IsWhole) (arg10 : Memref sig .tc .vmem S94x64x256 .f32) (harg10 : arg10.IsWhole)
    (x0 x1 x2 : Vec Ideal S1x4096x512 .bf16) (x3 : Vec Ideal S31x512 .f32) (x4 x5 x6 : Vec Ideal S1x512 .f32) (E : Set ℕ) (K : PUnit → sProp (MT nD τ sig Unit (Elt Ideal) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlk x0 x1 x2 x3 x4 x5 x6) ∗ (∃ d, owns (c : Thread nD τ) arg9 fullShare d) ∗ (∃ d, owns (c : Thread nD τ) arg10 fullShare d)) -∗ K ⟨⟩))
      ⊢ wp frame (wpE (defs₀ (F := Ideal)) Variants.none c none) E (cc0_conformer_conv i arg1 harg1 arg2 harg2 arg3 harg3 arg4 harg4 arg5 harg5 arg6 harg6 arg7 harg7 arg8 harg8 arg9 harg9 arg10 harg10) K := by
  simp only [cc0_conformer_conv_eq_skeleton]
  unfold cc0_conformer_conv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    exact filled_out x0 x1 x3 arg4 harg4 arg9 arg10 _ _ x2 x4 x5 x6 arg3 harg3 arg5 harg5 arg6 harg6 arg7 harg7 c i arg1 harg1 arg2 harg2 arg8 harg8 harg9 harg10
      (filled_row x0 x1 c i arg1 harg1 arg2 harg2 arg3 harg3 arg4 harg4 arg5 harg5 arg6 harg6 arg7 harg7 arg8 harg8 arg9 harg9 arg10 harg10 _)
      (filled_col x0 x1 c i arg1 harg1 arg2 harg2 arg3 harg3 arg4 harg4 arg5 harg5 arg6 harg6 arg7 harg7 arg8 harg8 arg9 harg9 arg10 harg10 _) _
  isplitl [HS0]
  · iexists _, _; isplitr; swap; · iexact HS0
    ipureintro; rfl
  iexists _, _; isplitr; swap; · iexact HS1
  ipureintro; rfl

end Body

section Launch

open Cert.KernelConvIdeal Cert.KernelConvIdeal.Gen

variable (m : (ℓ : Loc nD τ sig) → Buf (Elt Ideal) ℓ) (ρ : Dev nD → PrngReg)

/-- What the launch keeps on core `c`: each input's buffer at the block staged, the output's at the body's block of them. -/
def branch (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

/-- Its arrays are those the launch finds. -/
theorem branch_A (c : Dev nD) (w : Fin cfg0.W) : (branch m 0 c).A w = V m c (Pipeline.arrRef spec0 w) := by
  dsimp only [branch]

/-- An input's buffer holds its block at every point. -/
theorem staged (c : Dev nD) (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((branch m 0 c).after w t) = iblk m c w t) (t : Fin cfg0.N) (d) :
    (branch m 0 c).before w t d = (cfg0.win w).fill (cfg0.grid.coords t) d (iblk m c w t) :=
  (branch m 0 c).before_in_eq_fetched w hw hlive hclip hkeep t d

set_option maxHeartbeats 1000000 in
/-- The body at any point: from the inputs' blocks it leaves the output's buffer at its block of them. -/
theorem body_sound (c : Dev nD) (t : Fin cfg0.N) :
    iprop((branch m 0 c).Φ t.castSucc ∗ (branch m 0 c).owesAt () t.castSucc
      ∗ (∃ d, owns (c : Thread nD τ) (ms0_0 t) fullShare ((branch m 0 c).before 0 t d))
      ∗ (∃ d, owns (c : Thread nD τ) (ms0_1 t) fullShare ((branch m 0 c).before 1 t d))
      ∗ (∃ d, owns (c : Thread nD τ) (ms0_2 t) fullShare ((branch m 0 c).before 2 t d))
      ∗ (∃ d, owns (c : Thread nD τ) (ms0_3 t) fullShare ((branch m 0 c).before 3 t d))
      ∗ (∃ d, owns (c : Thread nD τ) (ms0_4 t) fullShare ((branch m 0 c).before 4 t d))
      ∗ (∃ d, owns (c : Thread nD τ) (ms0_5 t) fullShare ((branch m 0 c).before 5 t d))
      ∗ (∃ d, owns (c : Thread nD τ) (ms0_6 t) fullShare ((branch m 0 c).before 6 t d))
      ∗ (∃ d, owns (c : Thread nD τ) (ms0_7 t) fullShare ((branch m 0 c).before 7 t d)))
    ⊢ wp frame (wpE (defs₀ (F := Ideal)) Variants.none c none) Set.univ (bodyAt0 t) (fun _ =>
      iprop((branch m 0 c).Φ t.succ ∗ (branch m 0 c).owesAt () t.succ
        ∗ owns (c : Thread nD τ) (ms0_0 t) fullShare ((branch m 0 c).after 0 t)
        ∗ owns (c : Thread nD τ) (ms0_1 t) fullShare ((branch m 0 c).after 1 t)
        ∗ owns (c : Thread nD τ) (ms0_2 t) fullShare ((branch m 0 c).after 2 t)
        ∗ owns (c : Thread nD τ) (ms0_3 t) fullShare ((branch m 0 c).after 3 t)
        ∗ owns (c : Thread nD τ) (ms0_4 t) fullShare ((branch m 0 c).after 4 t)
        ∗ owns (c : Thread nD τ) (ms0_5 t) fullShare ((branch m 0 c).after 5 t)
        ∗ owns (c : Thread nD τ) (ms0_6 t) fullShare ((branch m 0 c).after 6 t)
        ∗ owns (c : Thread nD τ) (ms0_7 t) fullShare ((branch m 0 c).after 7 t))) := by
  unfold bodyAt0
  have b0 : ∀ d, (branch m 0 c).before 0 t d = iblk m c 0 t := fun d => staged m c 0 rfl (fun _ => rfl) (fun _ _ _ => rfl) (fun _ => rfl) t d
  have b1 : ∀ d, (branch m 0 c).before 1 t d = iblk m c 1 t := fun d => staged m c 1 rfl (fun _ => rfl) (fun _ _ _ => rfl) (fun _ => rfl) t d
  have b2 : ∀ d, (branch m 0 c).before 2 t d = iblk m c 2 t := fun d => staged m c 2 rfl (fun _ => rfl) (fun _ _ _ => rfl) (fun _ => rfl) t d
  have b3 : ∀ d, (branch m 0 c).before 3 t d = iblk m c 3 t := fun d => staged m c 3 rfl (fun _ => rfl) (fun _ _ _ => rfl) (fun _ => rfl) t d
  have b4 : ∀ d, (branch m 0 c).before 4 t d = iblk m c 4 t := fun d => staged m c 4 rfl (fun _ => rfl) (fun _ _ _ => rfl) (fun _ => rfl) t d
  have b5 : ∀ d, (branch m 0 c).before 5 t d = iblk m c 5 t := fun d => staged m c 5 rfl (fun _ => rfl) (fun _ _ _ => rfl) (fun _ => rfl) t d
  have b6 : ∀ d, (branch m 0 c).before 6 t d = iblk m c 6 t := fun d => staged m c 6 rfl (fun _ => rfl) (fun _ _ _ => rfl) (fun _ => rfl) t d
  simp only [b0, b1, b2, b3, b4, b5, b6]
  rw [show (branch m 0 c).Φ t.succ = Pipeline.ΦA spec0 c from rfl, show (branch m 0 c).Φ t.castSucc = Pipeline.ΦA spec0 c from rfl,
    show (branch m 0 c).owesAt () t.succ = (branch m 0 c).owesAt () t.castSucc from rfl, PhiA0_eq,
    show (branch m 0 c).after 0 t = iblk m c 0 t from rfl, show (branch m 0 c).after 1 t = iblk m c 1 t from rfl,
    show (branch m 0 c).after 2 t = iblk m c 2 t from rfl, show (branch m 0 c).after 3 t = iblk m c 3 t from rfl,
    show (branch m 0 c).after 4 t = iblk m c 4 t from rfl, show (branch m 0 c).after 5 t = iblk m c 5 t from rfl,
    show (branch m 0 c).after 6 t = iblk m c 6 t from rfl,
    show (branch m 0 c).after 7 t = outBlk (iblk m c 0 t) (iblk m c 1 t) (iblk m c 2 t) (iblk m c 3 t) (iblk m c 4 t) (iblk m c 5 t) (iblk m c 6 t) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the launch runs at a point, as the proof above spells it. -/
theorem body_row (t : Fin cfg0.N) : defs₀ (F := Ideal) .tc cfg0.body (cfg0.bodyArgs t (cfg0.slots t)) = bodyAt0 t := by
  unfold defs₀
  rw [Defs.onTc_tc]

/-- The body meets what the launch asks of it at every point. -/
theorem obligation (c : Dev nD) : BodyObligation (branch m 0 c) (defs₀ (F := Ideal)) Variants.none () Set.univ := fun t => by
  rw [bigSep_W0, bigSep_W0, body_row]
  exact triple_restated (body_sound m c t) rfl .rfl fun _ => .rfl

set_option backward.isDefEq.respectTransparency.types false in
/-- The kernel runs to the end: every array is as the launch leaves it, and no semaphore is left. -/
theorem run_branch : θ_run defs (onTc (τ := τ) (main (F := Ideal))) (s₀ m ρ) (fun r => (Pipeline.FramePost cfgs (branch m) 0 (V m)) r ∧ r.2.sem = fun _ => 0) :=
  Pipeline.θ_run_frame_shared (Q' := _) cfgs (branch m) (0 : Fin 1) launch₀0 defs₀ Variants.none m ρ main
    (hbody := fun c => (obligation m c).loose) (hq := fun _ _ _ => rfl)
    (howed := fun _ _ => rfl) (V := V m) (hmain := hmain m Variants.none) (hA := branch_A m) (hΦ := fun _ _ => rfl)

/-- A batch's block of 512 columns from column `o` on. -/
def slab (X : Vec Ideal S8x4096x4096 .bf16) (b : Fin 8) (o : ℕ) (ho : o + 512 ≤ 4096) : Vec Ideal S1x4096x512 .bf16 :=
  fun y => X (ix3 b (y 1) ⟨o + (y 2).val, by have : (y 2).val < 512 := (y 2).isLt; omega⟩)

/-- The whole result. -/
def G (X : Vec Ideal S8x4096x4096 .bf16) (W : Vec Ideal S31x512 .f32) (cb lg lb : Vec Ideal S1x512 .f32) : Vec Ideal S8x4096x512 .bf16 :=
  fun i => outBlk (slab X (i 0) 2560 (by omega)) (slab X (i 0) 3072 (by omega)) (slab X (i 0) 3584 (by omega)) W cb lg lb (ix3 0 (i 1) (i 2))

/-- The blocks that step `t` brings in: the values' slab, -/
theorem idx0 : ∀ t : Fin cfg0.N, win0_0.index t = ![t.val, 0, 5] :=
  (by decide +kernel : ∀ t : Fin grid0.N, win0_0.index t = ![t.val, 0, 5])
/-- their gates' slab, -/
theorem idx1 : ∀ t : Fin cfg0.N, win0_1.index t = ![t.val, 0, 6] :=
  (by decide +kernel : ∀ t : Fin grid0.N, win0_1.index t = ![t.val, 0, 6])
/-- the branch's gate's slab, -/
theorem idx2 : ∀ t : Fin cfg0.N, win0_2.index t = ![t.val, 0, 7] :=
  (by decide +kernel : ∀ t : Fin grid0.N, win0_2.index t = ![t.val, 0, 7])
/-- the weights, whole, -/
theorem idx3 : ∀ t : Fin cfg0.N, win0_3.index t = ![0, 0] :=
  (by decide +kernel : ∀ t : Fin grid0.N, win0_3.index t = ![0, 0])
/-- the bias, -/
theorem idx4 : ∀ t : Fin cfg0.N, win0_4.index t = ![0, 0] :=
  (by decide +kernel : ∀ t : Fin grid0.N, win0_4.index t = ![0, 0])
/-- the scale, -/
theorem idx5 : ∀ t : Fin cfg0.N, win0_5.index t = ![0, 0] :=
  (by decide +kernel : ∀ t : Fin grid0.N, win0_5.index t = ![0, 0])
/-- the shift, -/
theorem idx6 : ∀ t : Fin cfg0.N, win0_6.index t = ![0, 0] :=
  (by decide +kernel : ∀ t : Fin grid0.N, win0_6.index t = ![0, 0])
/-- and the block it sends out. -/
theorem idx7 : ∀ t : Fin cfg0.N, win0_7.index t = ![t.val, 0, 0] :=
  (by decide +kernel : ∀ t : Fin grid0.N, win0_7.index t = ![t.val, 0, 0])

set_option maxHeartbeats 1000000 in
/-- If each grid point flushes the body's block of the blocks it staged, the result array ends as `G` of the arguments. -/
theorem final (c : Dev nD) (D : Dat τ (Elt Ideal) Unit ℕ (UR sig nD τ) ℕ cfg0 c)
    (hD : ∀ t : Fin cfg0.N, D.flushed 7 t = (cfg0.win 7).cut (grid0.coords t) (outBlk (iblk m c 0 t) (iblk m c 1 t) (iblk m c 2 t) (iblk m c 3 t) (iblk m c 4 t) (iblk m c 5 t) (iblk m c 6 t))) :
    D.arrAt 7 cfg0.N = G (m ((c : Thread nD τ).loc main_arg0)) (m ((c : Thread nD τ).loc main_arg1)) (m ((c : Thread nD τ).loc main_arg2)) (m ((c : Thread nD τ).loc main_arg3)) (m ((c : Thread nD τ).loc main_arg4)) := by
  refine Dat.arrAt_eq_of_covers D 7 _ (by decide +kernel) fun t hf y => ?_
  blk_simp
  have h := congrFun (hD t) y
  blk_simp at h
  refine h.trans ?_
  have hN : t.val < 8 := lt_of_lt_of_eq t.isLt N_0
  have e0 : iblk m c 0 t = slab (m ((c : Thread nD τ).loc main_arg0)) ⟨t.val, hN⟩ 2560 (by omega) := by
    funext z
    blk_simp [iblk]
    rw [V_main_arg0]
    unfold slab
    congr 1
    blk_ext [idx0]
  have e1 : iblk m c 1 t = slab (m ((c : Thread nD τ).loc main_arg0)) ⟨t.val, hN⟩ 3072 (by omega) := by
    funext z
    blk_simp [iblk]
    rw [V_main_arg0]
    unfold slab
    congr 1
    blk_ext [idx1]
  have e2 : iblk m c 2 t = slab (m ((c : Thread nD τ).loc main_arg0)) ⟨t.val, hN⟩ 3584 (by omega) := by
    funext z
    blk_simp [iblk]
    rw [V_main_arg0]
    unfold slab
    congr 1
    blk_ext [idx2]
  have e3 : iblk m c 3 t = m ((c : Thread nD τ).loc main_arg1) := by
    funext z
    blk_simp [iblk]
    rw [V_main_arg1]
    congr 1
    blk_ext [idx3]
  have e4 : iblk m c 4 t = m ((c : Thread nD τ).loc main_arg2) := by
    funext z
    blk_simp [iblk]
    rw [V_main_arg2]
    congr 1
    blk_ext [idx4]
  have e5 : iblk m c 5 t = m ((c : Thread nD τ).loc main_arg3) := by
    funext z
    blk_simp [iblk]
    rw [V_main_arg3]
    congr 1
    blk_ext [idx5]
  have e6 : iblk m c 6 t = m ((c : Thread nD τ).loc main_arg4) := by
    funext z
    blk_simp [iblk]
    rw [V_main_arg4]
    congr 1
    blk_ext [idx6]
  have ey : ((win0_7.blk t).view.emb y : S8x4096x512.Idx) = ix3 ⟨t.val, hN⟩ (y 1) (y 2) := by
    blk_ext [idx7]
  have ez : (y : S1x4096x512.Idx) = ix3 0 (y 1) (y 2) := by
    refine funext fun a => Fin.ext ?_
    match a with
    | ⟨0, _⟩ => show (y 0).val = 0; have : (y 0).val < 1 := (y 0).isLt; omega
    | ⟨1, _⟩ => rfl
    | ⟨2, _⟩ => rfl
  rw [ey]
  show outBlk (iblk m c 0 t) (iblk m c 1 t) (iblk m c 2 t) (iblk m c 3 t) (iblk m c 4 t) (iblk m c 5 t) (iblk m c 6 t) y = _
  rw [e0, e1, e2, e3, e4, e5, e6]
  exact congrArg _ ez

/-- The kernel runs to the end with its result `G` of the arguments and the arguments unchanged. -/
theorem leaves : θ_run defs (onTc (τ := τ) (main (F := Ideal))) ⟨m, fun _ => 0, ρ⟩ fun r => (∀ c : Dev nD,
    r.2.mem ((c : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2))
    ∧ r.2.mem ((c : Thread nD τ).loc main_arg3) = (m ((c : Thread nD τ).loc main_arg3))
    ∧ r.2.mem ((c : Thread nD τ).loc main_arg4) = (m ((c : Thread nD τ).loc main_arg4)))
    ∧ r.2.sem = fun _ => 0 := by
  refine (θ_run defs _ _).mono (fun _ h => ⟨fun c => ⟨((h.1 c).1 7).trans (final m c (branch m 0 c) fun _ => rfl),
      ((h.1 c).1 0).trans (((branch m 0 c).arrAt_in 0 rfl _).trans ((branch_A m c 0).trans (V_main_arg0 m c))),
      ((h.1 c).1 3).trans (((branch m 0 c).arrAt_in 3 rfl _).trans ((branch_A m c 3).trans (V_main_arg1 m c))),
      ((h.1 c).1 4).trans (((branch m 0 c).arrAt_in 4 rfl _).trans ((branch_A m c 4).trans (V_main_arg2 m c))),
      ((h.1 c).1 5).trans (((branch m 0 c).arrAt_in 5 rfl _).trans ((branch_A m c 5).trans (V_main_arg3 m c))),
      ((h.1 c).1 6).trans (((branch m 0 c).arrAt_in 6 rfl _).trans ((branch_A m c 6).trans (V_main_arg4 m c)))⟩, h.2⟩) (run_branch m ρ)

end Launch

section Reference

open Cert.ReferenceConvIdeal Cert.ReferenceConvIdeal.Gen Cert.ReferenceConvIdeal.Value

variable (V0 : Valuation τ sig (Elt Ideal))

/-- The activation's two blocks of columns that the gate multiplies, and the block the branch is gated by. -/
def refA (b : Fin 8) : Vec Ideal Cert.KernelConvIdeal.S1x4096x512 .bf16 := slab (V0 (Proc.devRef .tc main_arg0)) b 2560 (by omega)
@[inherit_doc refA] def refB (b : Fin 8) : Vec Ideal Cert.KernelConvIdeal.S1x4096x512 .bf16 := slab (V0 (Proc.devRef .tc main_arg0)) b 3072 (by omega)
@[inherit_doc refA] def refC (b : Fin 8) : Vec Ideal Cert.KernelConvIdeal.S1x4096x512 .bf16 := slab (V0 (Proc.devRef .tc main_arg0)) b 3584 (by omega)
/-- The taps' weights. -/
def refW : Vec Ideal S31x512 .f32 := V0 (Proc.devRef .tc main_arg1)

/-- The bias, the scale and the shift of the norm. -/
def refBias : Vec Ideal S1x512 .f32 := V0 (Proc.devRef .tc main_arg2)
@[inherit_doc refBias] def refScale : Vec Ideal S1x512 .f32 := V0 (Proc.devRef .tc main_arg3)
@[inherit_doc refBias] def refShift : Vec Ideal S1x512 .f32 := V0 (Proc.devRef .tc main_arg4)

/-- The integer zero as a number. -/
theorem int_zero : FloatOps.sitofp (F := Ideal) FTy.f32 0#32 = (0 : EReal) := by
  simp [FloatOps.sitofp]

/-- The reference's gated activation as an image. -/
theorem v16_apply (b : Fin 8) (h w : Fin 64) (ch : Fin 512) :
    res_main_v16 V0 (ix4 b h w ch : S8x64x64x512.Idx) = glu (refA V0 b) (refB V0 b) (64 * h.val + w.val) ch.val := by
  have e : 64 * h.val + w.val = h.val * 64 + w.val := by omega
  unfold glu rd
  rw [e, dif_pos ⟨by omega, ch.isLt⟩, dif_pos ⟨by omega, ch.isLt⟩]
  pointwise [res_main_v16, refA, refB, slab]
  rfl

/-- The reference's weights of the taps along a row, -/
theorem v18_apply (j : Fin 31) (ch : Fin 256) :
    res_main_v18 V0 (ix4 0 j 0 ch : S1x31x1x256.Idx) = wt (refW V0) j.val ch.val := by
  unfold wt
  rw [dif_pos ⟨j.isLt, by omega⟩]
  pointwise [res_main_v18, refW]

/-- and along a column. -/
theorem v20_apply (j : Fin 31) (ch : Fin 256) :
    res_main_v20 V0 (ix4 j 0 0 ch : S31x1x1x256.Idx) = wt (refW V0) j.val (256 + ch.val) := by
  unfold wt
  rw [dif_pos ⟨j.isLt, by omega⟩]
  pointwise [res_main_v20, refW]

/-- The reference's image padded along its rows, -/
theorem v22_apply (b : Fin 8) (h : Fin 64) (w : Fin 94) (ch : Fin 256) :
    res_main_v22 V0 (ix4 b h w ch : S8x64x94x256.Idx) = rowAt (refA V0 b) (refB V0 b) h.val (w.val + 1) ch.val := by
  pointwise [res_main_v22]
  unfold rowAt
  by_cases hw : 15 ≤ w.val ∧ w.val - 15 < 64
  · rw [dif_pos hw, if_pos (by omega)]
    exact (v16_apply V0 b h _ _).trans (congrArg (fun p => glu (refA V0 b) (refB V0 b) p ch.val) (show 64 * h.val + (w.val - 15) = 64 * h.val + (w.val + 1 - 16) by omega))
  · rw [dif_neg hw, if_neg (by omega)]
    exact int_zero

/-- and along its columns. -/
theorem v240_apply (b : Fin 8) (h : Fin 94) (w : Fin 64) (ch : Fin 256) :
    res_main_v240 V0 (ix4 b h w ch : S8x94x64x256.Idx) = colAt (refA V0 b) (refB V0 b) h.val w.val ch.val := by
  pointwise [res_main_v240]
  unfold colAt
  by_cases hw : 15 ≤ h.val ∧ h.val - 15 < 64
  · rw [dif_pos hw, if_pos (by omega)]
    exact v16_apply V0 b _ w _
  · rw [dif_neg hw, if_neg (by omega)]
    exact int_zero

/-- The reference's first thirty taps along a row, -/
theorem v237_apply (b : Fin 8) (h w : Fin 64) (ch : Fin 256) :
    res_main_v237 V0 (ix4 b h w ch : S8x64x64x256.Idx)
      = ∑ j ∈ Finset.range 30, rowAt (refA V0 b) (refB V0 b) h.val (j + w.val + 1) ch.val * wt (refW V0) j ch.val := by
  pointwise [res_main_v237, res_main_v227, res_main_v217]
  simp only [v22_apply, v18_apply, Finset.sum_range_succ, Finset.sum_range_zero, zero_add]
  rfl

/-- and along a column. -/
theorem v455_apply (b : Fin 8) (h w : Fin 64) (ch : Fin 256) :
    res_main_v455 V0 (ix4 b h w ch : S8x64x64x256.Idx)
      = ∑ j ∈ Finset.range 30, colAt (refA V0 b) (refB V0 b) (j + h.val) w.val ch.val * wt (refW V0) j (256 + ch.val) := by
  pointwise [res_main_v455, res_main_v445, res_main_v435]
  simp only [v240_apply, v20_apply, Finset.sum_range_succ, Finset.sum_range_zero, zero_add]
  rfl

/-- The sum of the taps along a row as the reference adds it, the last tap apart, -/
theorem rowSum_eq (b : Fin 8) (h w ch : ℕ) :
    rowSum (refA V0 b) (refB V0 b) (refW V0) h w ch
      = (∑ j ∈ Finset.range 30, rowAt (refA V0 b) (refB V0 b) h (j + w + 1) ch * wt (refW V0) j ch)
        + rowAt (refA V0 b) (refB V0 b) h (30 + w + 1) ch * wt (refW V0) 30 ch := by
  rw [← Finset.sum_range_succ (fun j => rowAt (refA V0 b) (refB V0 b) h (j + w + 1) ch * wt (refW V0) j ch) 30]
  exact Finset.sum_congr rfl fun j _ => by rw [Nat.add_right_comm]

/-- and along a column. -/
theorem colSum_eq (b : Fin 8) (h w ch : ℕ) :
    colSum (refA V0 b) (refB V0 b) (refW V0) h w ch
      = (∑ j ∈ Finset.range 30, colAt (refA V0 b) (refB V0 b) (j + h) w ch * wt (refW V0) j (256 + ch))
        + colAt (refA V0 b) (refB V0 b) (30 + h) w ch * wt (refW V0) 30 (256 + ch) := by
  rw [← Finset.sum_range_succ (fun j => colAt (refA V0 b) (refB V0 b) (j + h) w ch * wt (refW V0) j (256 + ch)) 30]
  exact Finset.sum_congr rfl fun j _ => by rw [Nat.add_comm h j]

end Reference

section Reference

open Cert.ReferenceConvIdeal Cert.ReferenceConvIdeal.Gen Cert.ReferenceConvIdeal.Value

variable (V0 : Valuation τ sig (Elt Ideal))

/-- A sum over 512 entries, by halves. -/
theorem sum_halves (f : Fin 512 → EReal) : ∑ x, f x = (∑ x : Fin 256, f ⟨x.val, by omega⟩) + ∑ x : Fin 256, f ⟨256 + x.val, by omega⟩ :=
  Fin.sum_univ_add (a := 256) (b := 256) f

/-- The convolution with its bias at token `(b, r)` and channel `ch`. -/
def refConv (b : Fin 8) (r : Fin 4096) (ch : Fin 512) : EReal :=
  (if ch.val < 256 then rowSum (refA V0 b) (refB V0 b) (refW V0) (r.val / 64) (r.val % 64) ch.val
    else colSum (refA V0 b) (refB V0 b) (refW V0) (r.val / 64) (r.val % 64) (ch.val - 256)) + refBias V0 (ix2 0 ch)

/-- An image read as rows. -/
theorem rows_apply (x : FVec Ideal S8x64x64x512 .f32) (b : Fin 8) (r : Fin 4096) (ch : Fin 512) :
    shapeCast S8x4096x512 x shapeCasts_S8x64x64x512_S8x4096x512 (ix3 b r ch) = x (ix4 b ⟨r.val / 64, by omega⟩ ⟨r.val % 64, by omega⟩ ch) := by
  pointwise

/-- Two halves of the channels joined. -/
theorem joined_apply (P Q : FVec Ideal S8x64x64x256 .f32) (b : Fin 8) (h w : Fin 64) (ch : Fin 512) :
    concatenate S8x64x64x512 3 [⟨S8x64x64x256, P⟩, ⟨S8x64x64x256, Q⟩] concatenates_S8x64x64x256_S8x64x64x256_S8x64x64x512_d3 (ix4 b h w ch)
      = if h' : ch.val < 256 then P (ix4 b h w ⟨ch.val, h'⟩) else Q (ix4 b h w ⟨ch.val - 256, by omega⟩) := by
  pointwise

/-- A row vector read along the channels. -/
theorem along_apply (z : FVec Ideal S1x512 .f32) (b : Fin 8) (r : Fin 4096) (ch : Fin 512) :
    broadcastInDim S8x4096x512 ![0, 1, 2] bcast_S1x1x512_S8x4096x512_0_1_2 (broadcastInDim S1x1x512 ![2] bcast_S512_S1x1x512_2 (shapeCast _ z shapeCasts_S1x512_S512)) (ix3 b r ch) = z (ix2 0 ch) := by
  pointwise

/-- The reference's taps along a row, -/
def refRows : FVec Ideal S8x64x64x256 .f32 :=
  addf (res_main_v237 V0) (mulf (extractStridedSlice S8x64x64x256 ![0, 0, 30, 0] (res_main_v22 V0) slices_S8x64x94x256_S8x64x64x256_0_0_30_0) (broadcastInDim S8x64x64x256 ![0, 1, 2, 3] bcast_S1x1x1x256_S8x64x64x256_0_1_2_3 (broadcastInDim S1x1x1x256 ![3] bcast_S256_S1x1x1x256_3 (shapeCast _ (extractStridedSlice S1x1x1x256 ![0, 30, 0, 0] (res_main_v18 V0) slices_S1x31x1x256_S1x1x1x256_0_30_0_0) shapeCasts_S1x1x1x256_S256))))

/-- and along a column. -/
def refCols : FVec Ideal S8x64x64x256 .f32 :=
  addf (res_main_v455 V0) (mulf (extractStridedSlice S8x64x64x256 ![0, 30, 0, 0] (res_main_v240 V0) slices_S8x94x64x256_S8x64x64x256_0_30_0_0) (broadcastInDim S8x64x64x256 ![0, 1, 2, 3] bcast_S1x1x1x256_S8x64x64x256_0_1_2_3 (broadcastInDim S1x1x1x256 ![3] bcast_S256_S1x1x1x256_3 (shapeCast _ (extractStridedSlice S1x1x1x256 ![30, 0, 0, 0] (res_main_v20 V0) slices_S31x1x1x256_S1x1x1x256_30_0_0_0) shapeCasts_S1x1x1x256_S256))))

/-- The taps along a row, read at an index, are the kernel's sum of them. -/
theorem refRows_apply (b : Fin 8) (h w : Fin 64) (ch : Fin 256) :
    refRows V0 (ix4 b h w ch) = rowSum (refA V0 b) (refB V0 b) (refW V0) h.val w.val ch.val := by
  rw [rowSum_eq]
  pointwise [refRows]
  simp only [v237_apply, v22_apply, v18_apply]
  rfl

/-- The taps along a column likewise. -/
theorem refCols_apply (b : Fin 8) (h w : Fin 64) (ch : Fin 256) :
    refCols V0 (ix4 b h w ch) = colSum (refA V0 b) (refB V0 b) (refW V0) h.val w.val ch.val := by
  rw [colSum_eq]
  pointwise [refCols]
  simp only [v455_apply, v240_apply, v20_apply]
  rfl

/-- Two halves joined along the channels, read as rows, with a bias added. -/
theorem conv_apply (P Q : FVec Ideal S8x64x64x256 .f32) (z : FVec Ideal S1x512 .f32) (b : Fin 8) (r : Fin 4096) (ch : Fin 512) :
    (addf (shapeCast S8x4096x512 (concatenate S8x64x64x512 3 [⟨S8x64x64x256, P⟩, ⟨S8x64x64x256, Q⟩] concatenates_S8x64x64x256_S8x64x64x256_S8x64x64x512_d3) shapeCasts_S8x64x64x512_S8x4096x512)
    (broadcastInDim S8x4096x512 ![0, 1, 2] bcast_S1x1x512_S8x4096x512_0_1_2 (broadcastInDim S1x1x512 ![2] bcast_S512_S1x1x512_2 (shapeCast _ z shapeCasts_S1x512_S512))) : FVec Ideal S8x4096x512 .f32) (ix3 b r ch)
      = @HAdd.hAdd EReal EReal EReal _ (if h' : ch.val < 256 then P (ix4 b ⟨r.val / 64, by omega⟩ ⟨r.val % 64, by omega⟩ ⟨ch.val, h'⟩) else Q (ix4 b ⟨r.val / 64, by omega⟩ ⟨r.val % 64, by omega⟩ ⟨ch.val - 256, by omega⟩)) (z (ix2 0 ch)) := by
  rw [addf_apply, rows_apply, joined_apply, along_apply]
  rfl

/-- The reference's convolution with its bias is the two halves joined, read as rows, with the bias added. -/
theorem v461_eq : res_main_v461 V0 = (addf (shapeCast S8x4096x512 (concatenate S8x64x64x512 3 [⟨S8x64x64x256, refRows V0⟩, ⟨S8x64x64x256, refCols V0⟩] concatenates_S8x64x64x256_S8x64x64x256_S8x64x64x512_d3) shapeCasts_S8x64x64x512_S8x4096x512)
    (broadcastInDim S8x4096x512 ![0, 1, 2] bcast_S1x1x512_S8x4096x512_0_1_2 (broadcastInDim S1x1x512 ![2] bcast_S512_S1x1x512_2 (shapeCast _ (refBias V0) shapeCasts_S1x512_S512))) : FVec Ideal S8x4096x512 .f32) := rfl

/-- The reference's convolution with its bias, -/
theorem v461_apply (b : Fin 8) (r : Fin 4096) (ch : Fin 512) :
    res_main_v461 V0 (ix3 b r ch : S8x4096x512.Idx) = refConv V0 b r ch := by
  rw [v461_eq, conv_apply]
  unfold refConv
  congr 1
  split
  · rw [refRows_apply]
  · rw [refCols_apply]

/-- its mean over the channels, -/
theorem v465_apply (b : Fin 8) (r : Fin 4096) :
    res_main_v465 V0 (ix3 b r 0 : S8x4096x1.Idx)
      = Ideal.div (∑ x : Fin 256, refConv V0 b r ⟨x.val, by omega⟩ + ∑ x : Fin 256, refConv V0 b r ⟨256 + x.val, by omega⟩) (Ideal.ofBits FTy.f32 1140850688#32) := by
  pointwise [res_main_v465]
  simp only [v461_apply]
  rw [sum_halves]

end Reference

section Reference

open Cert.ReferenceConvIdeal Cert.ReferenceConvIdeal.Gen Cert.ReferenceConvIdeal.Value

variable (V0 : Valuation τ sig (Elt Ideal))

/-- The norm's arithmetic, of the entries, their means, a scale and a shift. -/
def lnTerm (Y : FVec Ideal S8x4096x512 .f32) (M : FVec Ideal S8x4096x1 .f32) (g s : FVec Ideal S1x512 .f32) : FVec Ideal S8x4096x512 .f32 :=
  addf (mulf (mulf (subf Y (broadcastInDim S8x4096x512 ![0, 1, 2] bcast_S8x4096x1_S8x4096x512_0_1_2 M)) (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf (subf Y (broadcastInDim S8x4096x512 ![0, 1, 2] bcast_S8x4096x1_S8x4096x512_0_1_2 M)) (subf Y (broadcastInDim S8x4096x512 ![0, 1, 2] bcast_S8x4096x1_S8x4096x512_0_1_2 M))) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 (shapeCast _ g shapeCasts_S1x512_S512)))) (broadcastInDim S8x4096x512 ![0, 1, 2] bcast_S1x1x512_S8x4096x512_0_1_2 (broadcastInDim S1x1x512 ![2] bcast_S512_S1x1x512_2 (shapeCast _ s shapeCasts_S1x512_S512)))

/-- That arithmetic at a token and a channel, -/
theorem lnTerm_apply (Y : FVec Ideal S8x4096x512 .f32) (M : FVec Ideal S8x4096x1 .f32) (g s : FVec Ideal S1x512 .f32) (b : Fin 8) (r : Fin 4096) (ch : Fin 512) :
    lnTerm Y M g s (ix3 b r ch)
      = @HAdd.hAdd EReal EReal EReal _ ((@HSub.hSub EReal EReal EReal _ (Y (ix3 b r ch)) (M (ix3 b r 0)))
        * Ideal.rsqrt (Ideal.div (∑ x : Fin 512, @HMul.hMul EReal EReal EReal _ (@HSub.hSub EReal EReal EReal _ (Y (ix3 b r x)) (M (ix3 b r 0))) (@HSub.hSub EReal EReal EReal _ (Y (ix3 b r x)) (M (ix3 b r 0)))) (Ideal.ofBits FTy.f32 1140850688#32) + Ideal.ofBits FTy.f32 897988541#32)
        * g (ix2 0 ch)) (s (ix2 0 ch)) := by
  pointwise [lnTerm]

/-- which is a layer norm when the means are the halves' sums over 512. -/
theorem lnTerm_lnAt (Y : FVec Ideal S8x4096x512 .f32) (M : FVec Ideal S8x4096x1 .f32) (g s : FVec Ideal S1x512 .f32) (b : Fin 8) (r : Fin 4096) (ch : Fin 512) (f : Fin 512 → EReal)
    (hY : ∀ x : Fin 512, Y (ix3 b r x) = f x)
    (hM : M (ix3 b r 0) = Ideal.div (∑ x : Fin 256, f ⟨x.val, by omega⟩ + ∑ x : Fin 256, f ⟨256 + x.val, by omega⟩) (Ideal.ofBits FTy.f32 1140850688#32)) :
    lnTerm Y M g s (ix3 b r ch) = lnAt (fun x => f ⟨x.val, by omega⟩) (fun x => f ⟨256 + x.val, by omega⟩) (f ch) (g (ix2 0 ch)) (s (ix2 0 ch)) := by
  rw [lnTerm_apply, hM, sum_halves]
  simp only [hY]
  unfold lnAt
  rfl

/-- The reference's norm is that arithmetic. -/
theorem v485_eq : res_main_v485 V0 = lnTerm (res_main_v461 V0) (res_main_v465 V0) (refScale V0) (refShift V0) := rfl

/-- The reference's norm. -/
theorem v485_apply (b : Fin 8) (r : Fin 4096) (ch : Fin 512) :
    res_main_v485 V0 (ix3 b r ch : S8x4096x512.Idx)
      = normAt (refA V0 b) (refB V0 b) (refW V0) (refBias V0) (refScale V0) (refShift V0) (r.val / 64) (r.val % 64) ch := by
  rw [v485_eq, lnTerm_lnAt _ _ _ _ b r ch (refConv V0 b r) (v461_apply V0 b r) (v465_apply V0 b r)]
  unfold normAt refConv
  simp only [Fin.is_lt, if_true, Nat.not_lt.mpr (Nat.le_add_right _ _), if_false, Nat.add_sub_cancel_left]

/-- Two gates multiplied. -/
def gateTerm (Y Z : FVec Ideal S8x4096x512 .f32) : FVec Ideal S8x4096x512 .bf16 :=
  truncf .bf16 (mulf (mulf Y (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf Y))))) (mulf Z (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf Z)))))) bitsLt_bf16_f32

/-- Two gates multiplied, at an index. -/
theorem gateTerm_apply (Y Z : FVec Ideal S8x4096x512 .f32) (b : Fin 8) (r : Fin 4096) (ch : Fin 512) :
    gateTerm Y Z (ix3 b r ch) = siluAt (Y (ix3 b r ch)) * siluAt (Z (ix3 b r ch)) := by
  pointwise [gateTerm]
  rfl

/-- The gate's slab of the projection. -/
theorem v5_apply (b : Fin 8) (r : Fin 4096) (ch : Fin 512) : res_main_v5 V0 (ix3 b r ch : S8x4096x512.Idx) = rd (refC V0 b) r.val ch.val := by
  pointwise [res_main_v5]
  unfold rd
  rw [dif_pos ⟨r.isLt, ch.isLt⟩]
  rfl

/-- The reference's term of its arguments. -/
def refTerm : FVec Ideal S8x4096x512 .bf16 :=
  truncf .bf16 (mulf (mulf (res_main_v485 V0) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (res_main_v485 V0)))))) (mulf (res_main_v5 V0) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (res_main_v5 V0))))))) bitsLt_bf16_f32

/-- The term is the two gates. -/
theorem refTerm_eq : refTerm V0 = gateTerm (res_main_v485 V0) (res_main_v5 V0) := rfl

/-- The reference's result is `G` of its arguments. -/
theorem refValue : refTerm V0 = G (V0 (Proc.devRef .tc main_arg0)) (V0 (Proc.devRef .tc main_arg1)) (V0 (Proc.devRef .tc main_arg2)) (V0 (Proc.devRef .tc main_arg3)) (V0 (Proc.devRef .tc main_arg4)) := by
  funext i
  obtain ⟨b, r, ch, rfl⟩ : ∃ (b : Fin 8) (r : Fin 4096) (ch : Fin 512), i = (ix3 b r ch : S8x4096x512.Idx) := ⟨i 0, i 1, i 2, eq_ix3 i⟩
  have e : G (V0 (Proc.devRef .tc main_arg0)) (V0 (Proc.devRef .tc main_arg1)) (V0 (Proc.devRef .tc main_arg2)) (V0 (Proc.devRef .tc main_arg3)) (V0 (Proc.devRef .tc main_arg4)) (ix3 b r ch)
      = siluAt (normAt (refA V0 b) (refB V0 b) (refW V0) (refBias V0) (refScale V0) (refShift V0) (r.val / 64) (r.val % 64) ch) * siluAt (rd (refC V0 b) r.val ch.val) := rfl
  rw [e, refTerm_eq, gateTerm_apply, v485_apply, v5_apply]

end Reference

/-- The reference's run, its result named. -/
theorem ref_leaves (m : (ℓ : Loc Cert.ReferenceConvIdeal.nD Cert.ReferenceConvIdeal.τ Cert.ReferenceConvIdeal.sig) → Buf (Elt Ideal) ℓ) (ρ : Dev Cert.ReferenceConvIdeal.nD → PrngReg) :
    θ_run (Cert.ReferenceConvIdeal.defs (F := Ideal)) (onTc (τ := Cert.ReferenceConvIdeal.τ) (Cert.ReferenceConvIdeal.main (F := Ideal))) ⟨m, fun _ => 0, ρ⟩ fun r => ∀ c : Dev Cert.ReferenceConvIdeal.nD,
      r.2.mem ((c.tc : Thread Cert.ReferenceConvIdeal.nD Cert.ReferenceConvIdeal.τ).loc Cert.ReferenceConvIdeal.main_v489) = refTerm (StableHlo.launchContents m c)
      ∧ r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4) := by
  unfold refTerm
  exact Cert.ReferenceConvIdeal.Value.run (F := Ideal) m ρ

/-- Kernel and reference leave the same result. -/
theorem algebraic : Cert.algebraic_KernelConvIdeal_ReferenceConvIdeal := by
  intro m ρ m' ρ' _ hagree
  refine ⟨_, (θ_run Cert.KernelConvIdeal.defs _ _).mono (fun _ h => h.1) (leaves m ρ), ?_⟩
  refine (θ_run Cert.ReferenceConvIdeal.defs _ _).mono (fun _ h c => ⟨(h c).1.trans ?_, (h c).2⟩) (ref_leaves m' ρ')
  have e0 : StableHlo.launchContents m' c (Proc.devRef .tc Cert.ReferenceConvIdeal.main_arg0) = _ := (hagree c).1
  have e1 : StableHlo.launchContents m' c (Proc.devRef .tc Cert.ReferenceConvIdeal.main_arg1) = _ := (hagree c).2.1
  have e2 : StableHlo.launchContents m' c (Proc.devRef .tc Cert.ReferenceConvIdeal.main_arg2) = _ := (hagree c).2.2.1
  have e3 : StableHlo.launchContents m' c (Proc.devRef .tc Cert.ReferenceConvIdeal.main_arg3) = _ := (hagree c).2.2.2.1
  have e4 : StableHlo.launchContents m' c (Proc.devRef .tc Cert.ReferenceConvIdeal.main_arg4) = _ := (hagree c).2.2.2.2
  rw [refValue, e0, e1, e2, e3, e4]

end

end Cert.ConvBranch

namespace Cert.Proof

/-- The scan runs to the end and leaves its arguments as they were. -/
theorem frameK : Cert.quiescent_Kernel := fun m ρ _ => Cert.Kernel.Gen.frame m ρ
/-- The same of the scan at the ideal instance. -/
theorem frameKI : Cert.quiescent_KernelIdeal := fun m ρ _ => Cert.KernelIdeal.Gen.frame m ρ
/-- The input projection runs to the end and leaves its arguments as they were. -/
theorem frameIn : Cert.quiescent_KernelIn := fun m ρ _ => Cert.KernelIn.Gen.frame m ρ
/-- The same of the input projection at the ideal instance. -/
theorem frameInI : Cert.quiescent_KernelInIdeal := fun m ρ _ => Cert.KernelInIdeal.Gen.frame m ρ
/-- The output projection runs to the end and leaves its arguments as they were. -/
theorem frameOut : Cert.quiescent_KernelOut := fun m ρ _ => Cert.KernelOut.Gen.frame m ρ
/-- The same of the output projection at the ideal instance. -/
theorem frameOutI : Cert.quiescent_KernelOutIdeal := fun m ρ _ => Cert.KernelOutIdeal.Gen.frame m ρ
/-- The context projection runs to the end and leaves its arguments as they were. -/
theorem frameCtx : Cert.quiescent_KernelCtx := fun m ρ _ => Cert.KernelCtx.Gen.frame m ρ
/-- The same of the context projection at the ideal instance. -/
theorem frameCtxI : Cert.quiescent_KernelCtxIdeal := fun m ρ _ => Cert.KernelCtxIdeal.Gen.frame m ρ

/-- The modulation runs to the end and keeps its arguments. -/
theorem frameMod : Cert.quiescent_KernelMod := fun m ρ _ => Cert.KernelMod.Gen.frame m ρ

/-- The idealized modulation runs to the end and keeps its arguments. -/
theorem frameModI : Cert.quiescent_KernelModIdeal := fun m ρ _ => Cert.KernelModIdeal.Gen.frame m ρ

/-- The convolution branch runs to the end and keeps its arguments. -/
theorem frameConv : Cert.quiescent_KernelConv := fun m ρ _ => Cert.KernelConv.Gen.frame m ρ

/-- The idealized convolution branch runs to the end and keeps its arguments. -/
theorem frameConvI : Cert.quiescent_KernelConvIdeal :=
  fun m ρ _ => (θ_run Cert.KernelConvIdeal.defs _ _).mono (fun _ h => ⟨fun c => (h.1 c).2, h.2⟩) (Cert.ConvBranch.leaves m ρ)

/-- The convolution branch's reference runs to the end with its arguments unchanged and no semaphore left. -/
theorem frameConvR : Cert.quiescent_ReferenceConvIdeal :=
  fun m ρ _ => (θ_run Cert.ReferenceConvIdeal.defs _ _).mono (fun r h => ⟨fun c => (h c).2,
    Idealize.ShloMosaic.sem_eq_zero_of_no_sems (by decide) r.2⟩) (Cert.ReferenceConvIdeal.Value.run (F := Ideal) m ρ)

/-- Every claim of this certificate. -/
theorem claim : Cert.Claim := ⟨Cert.Kernel.Gen.facts, Cert.KernelIdeal.Gen.facts, Cert.KernelIn.Gen.facts,
  Cert.KernelInIdeal.Gen.facts, Cert.ReferenceInIdeal.Gen.facts, Cert.KernelOut.Gen.facts, Cert.KernelOutIdeal.Gen.facts,
  Cert.ReferenceOutIdeal.Gen.facts, Cert.KernelCtx.Gen.facts, Cert.KernelCtxIdeal.Gen.facts, Cert.ReferenceCtxIdeal.Gen.facts,
  Cert.KernelMod.Gen.facts, Cert.KernelModIdeal.Gen.facts, Cert.ReferenceModIdeal.Gen.facts, Cert.KernelConv.Gen.facts,
  Cert.KernelConvIdeal.Gen.facts, Cert.ReferenceConvIdeal.Gen.facts,
  by exact ⟨frameK, frameKI, frameIn, frameInI, Cert.InProj.quiescent_reference, frameOut, frameOutI,
    Cert.OutProj.quiescent_reference, frameCtx, frameCtxI, Cert.CtxProj.quiescent_reference, frameMod, frameModI,
    Cert.ModProj.quiescent_reference, frameConv, frameConvI, frameConvR, trivial, trivial,
    Cert.InProj.algebraic, trivial, Cert.OutProj.algebraic, trivial, Cert.CtxProj.algebraic, trivial, Cert.ModProj.algebraic, trivial,
    Cert.ConvBranch.algebraic⟩⟩

end Cert.Proof

end
